-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S8192x4096 : Shape := ⟨2, ![8192, 4096]⟩
abbrev S512x2048 : Shape := ⟨2, ![512, 2048]⟩
abbrev S3x512x2048 : Shape := ⟨3, ![3, 512, 2048]⟩
abbrev S_ : Shape := ⟨0, ![]⟩
abbrev S4x3 : Shape := ⟨2, ![4, 3]⟩
abbrev S2048x2048 : Shape := ⟨2, ![2048, 2048]⟩
abbrev S1x1 : Shape := ⟨2, ![1, 1]⟩
abbrev S1x512x2048 : Shape := ⟨3, ![1, 512, 2048]⟩

abbrev nBuf : Space → Nat
  | .hbm => 3
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S2048x4096, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | .local _ .vmem, ⟨7, _⟩ => ⟨S512x2048, .f32⟩
  | .local _ .vmem, ⟨8, _⟩ => ⟨S3x512x2048, .bf16⟩
  | .local _ .vmem, ⟨9, _⟩ => ⟨S3x512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  (ofTc nBuf bufTy 3 98 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev barrier0 : Sem sig := 2

abbrev nD : Nat := 4
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v8 : BitVec 1 := Scalar.cmpi .eq arg0 c0_i32
  let v9 : BitVec 32 := Scalar.extui v8
  let c0_i32_5 : BitVec 32 := 0#32
  let v10 : BitVec 1 := Scalar.cmpi .ne v9 c0_i32_5
  v10

def k0_dev1 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_274 : BitVec 32 := 1#32
  let v278 : BitVec 32 := Scalar.muli v7 c1_i32_274
  let v279 : BitVec 32 := Scalar.addi c0_i32_275 v278
  v279.toNat
def k0_dev2 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_277 : BitVec 32 := 1#32
  let v280 : BitVec 32 := Scalar.muli v4 c1_i32_277
  let v281 : BitVec 32 := Scalar.addi c0_i32_278 v280
  v281.toNat
def k0_off1 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_6 : BitVec 32 := 4#32
  let v11 : BitVec 32 := Scalar.addi v2 c4_i32_6
  let c1_i32_7 : BitVec 32 := 1#32
  let v12 : BitVec 32 := Scalar.subi v11 c1_i32_7
  let c4_i32_8 : BitVec 32 := 4#32
  let v13 : BitVec 32 := Scalar.remsi v12 c4_i32_8
  let c2048_i32 : BitVec 32 := 2048#32
  let v14 : BitVec 32 := Scalar.muli v13 c2048_i32
  let arg0 : BitVec 32 := BitVec.ofNat 32 (i 0).val
  let c512_i32 : BitVec 32 := 512#32
  let v15 : BitVec 32 := Scalar.muli arg0 c512_i32
  let v16 : BitVec 32 := Scalar.addi v14 v15
  let c0_i32_9 : BitVec 32 := 0#32
  ![v16.toNat, 0]
def k0_off2 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_16 : BitVec 32 := 1#32
  let v26 : BitVec 32 := Scalar.addi v2 c1_i32_16
  let c4_i32_17 : BitVec 32 := 4#32
  let v27 : BitVec 32 := Scalar.remsi v26 c4_i32_17
  let c2048_i32_18 : BitVec 32 := 2048#32
  let v28 : BitVec 32 := Scalar.muli v27 c2048_i32_18
  let arg0 : BitVec 32 := BitVec.ofNat 32 (i 0).val
  let c512_i32_19 : BitVec 32 := 512#32
  let v29 : BitVec 32 := Scalar.muli arg0 c512_i32_19
  let v30 : BitVec 32 := Scalar.addi v28 v29
  let c0_i32_20 : BitVec 32 := 0#32
  ![v30.toNat, 0]
@[reducible] def k0_t1_loop : Scf.Loop 32 :=
  let c0_i32_28 : BitVec 32 := 0#32
  let c3_i32 : BitVec 32 := 3#32
  let v40 : BitVec 32 := Scalar.addi c0_i32_28 c3_i32
  let c1_i32_29 : BitVec 32 := 1#32
  ⟨c0_i32_28, v40, c1_i32_29⟩
def k0_off3 (i : grid0.Coords) (k0_t1 : Fin k0_t1_loop.trips) : Fin 2 → Nat :=
  let arg0 : BitVec 32 := BitVec.ofNat 32 (i 0).val
  let c0_i32_28 : BitVec 32 := 0#32
  let c1_i32_29 : BitVec 32 := 1#32
  let arg26 : BitVec 32 := Scf.iv c0_i32_28 c1_i32_29 k0_t1
  ![arg0.toNat, arg26.toNat]
def k0_dev3 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_276 : BitVec 32 := 1#32
  let v282 : BitVec 32 := Scalar.muli v4 c1_i32_276
  let v283 : BitVec 32 := Scalar.addi c0_i32_277 v282
  v283.toNat
def k0_dev4 (d0 : Dev nD) : Nat :=
  let c0_i32_279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_278 : BitVec 32 := 1#32
  let v288 : BitVec 32 := Scalar.muli v7 c1_i32_278
  let v289 : BitVec 32 := Scalar.addi c0_i32_279 v288
  v289.toNat
def k0_off4 (i : grid0.Coords) (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_280 : BitVec 32 := 2#32
  let v294 : BitVec 32 := Scalar.subi v2 c2_i32_280
  let c0_i32_28 : BitVec 32 := 0#32
  let c1_i32_29 : BitVec 32 := 1#32
  let arg26 : BitVec 32 := Scf.iv c0_i32_28 c1_i32_29 k0_t1
  let v295 : BitVec 32 := Scalar.subi v294 arg26
  let c8_i32 : BitVec 32 := 8#32
  let v296 : BitVec 32 := Scalar.addi v295 c8_i32
  let c4_i32_281 : BitVec 32 := 4#32
  let v297 : BitVec 32 := Scalar.remsi v296 c4_i32_281
  let c2048_i32_282 : BitVec 32 := 2048#32
  let v298 : BitVec 32 := Scalar.muli v297 c2048_i32_282
  let arg0 : BitVec 32 := BitVec.ofNat 32 (i 0).val
  let c512_i32_283 : BitVec 32 := 512#32
  let v299 : BitVec 32 := Scalar.muli arg0 c512_i32_283
  let v300 : BitVec 32 := Scalar.addi v298 v299
  let c0_i32_284 : BitVec 32 := 0#32
  ![v300.toNat, 0]
def k0_off5 (i : grid0.Coords) (d0 : Dev nD) (k0_t1 : Fin k0_t1_loop.trips) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_293 : BitVec 32 := 2#32
  let v309 : BitVec 32 := Scalar.addi v2 c2_i32_293
  let c0_i32_28 : BitVec 32 := 0#32
  let c1_i32_29 : BitVec 32 := 1#32
  let arg26 : BitVec 32 := Scf.iv c0_i32_28 c1_i32_29 k0_t1
  let v310 : BitVec 32 := Scalar.addi v309 arg26
  let c4_i32_294 : BitVec 32 := 4#32
  let v311 : BitVec 32 := Scalar.remsi v310 c4_i32_294
  let c2048_i32_295 : BitVec 32 := 2048#32
  let v312 : BitVec 32 := Scalar.muli v311 c2048_i32_295
  let arg0 : BitVec 32 := BitVec.ofNat 32 (i 0).val
  let c512_i32_296 : BitVec 32 := 512#32
  let v313 : BitVec 32 := Scalar.muli arg0 c512_i32_296
  let v314 : BitVec 32 := Scalar.addi v312 v313
  let c0_i32_297 : BitVec 32 := 0#32
  ![v314.toNat, 0]
def k0_cond3 (i : grid0.Coords) (k0_t1 : Fin k0_t1_loop.trips) : BitVec 1 :=
  let arg0 : BitVec 32 := BitVec.ofNat 32 (i 0).val
  let c3_i32_324 : BitVec 32 := 3#32
  let v351 : BitVec 1 := Scalar.cmpi .eq arg0 c3_i32_324
  let c0_i32_28 : BitVec 32 := 0#32
  let c1_i32_29 : BitVec 32 := 1#32
  let arg26 : BitVec 32 := Scf.iv c0_i32_28 c1_i32_29 k0_t1
  let c2_i32_325 : BitVec 32 := 2#32
  let v352 : BitVec 1 := Scalar.cmpi .eq arg26 c2_i32_325
  let v353 : BitVec 1 := Scalar.andi v351 v352
  let v_true : BitVec 1 := 1#1
  let v354 : BitVec 1 := Scalar.xori v353 v_true
  let v355 : BitVec 32 := Scalar.extui v354
  let c0_i32_326 : BitVec 32 := 0#32
  let v356 : BitVec 1 := Scalar.cmpi .ne v355 c0_i32_326
  v356

def k0_dev5 (d0 : Dev nD) : Nat :=
  let c0_i32_329 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_328 : BitVec 32 := 1#32
  let v357 : BitVec 32 := Scalar.muli v7 c1_i32_328
  let v358 : BitVec 32 := Scalar.addi c0_i32_329 v357
  v358.toNat
def k0_dev6 (d0 : Dev nD) : Nat :=
  let c0_i32_332 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_331 : BitVec 32 := 1#32
  let v359 : BitVec 32 := Scalar.muli v4 c1_i32_331
  let v360 : BitVec 32 := Scalar.addi c0_i32_332 v359
  v360.toNat
def k0_off6 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_31 : BitVec 32 := 2048#32
  let v41 : BitVec 32 := Scalar.muli v2 c2048_i32_31
  let arg0 : BitVec 32 := BitVec.ofNat 32 (i 0).val
  let c512_i32_32 : BitVec 32 := 512#32
  let v42 : BitVec 32 := Scalar.muli arg0 c512_i32_32
  let v43 : BitVec 32 := Scalar.addi v41 v42
  let c0_i32_37 : BitVec 32 := 0#32
  ![v43.toNat, 0]
def k0_off7 (i : grid0.Coords) (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2048_i32_31 : BitVec 32 := 2048#32
  let v41 : BitVec 32 := Scalar.muli v2 c2048_i32_31
  let arg0 : BitVec 32 := BitVec.ofNat 32 (i 0).val
  let c512_i32_32 : BitVec 32 := 512#32
  let v42 : BitVec 32 := Scalar.muli arg0 c512_i32_32
  let v43 : BitVec 32 := Scalar.addi v41 v42
  let c2048_i32_42 : BitVec 32 := 2048#32
  ![v43.toNat, 2048]
def k0_off8 (i : grid0.Coords) : Fin 2 → Nat :=
  let arg0 : BitVec 32 := BitVec.ofNat 32 (i 0).val
  let c0_i32_47 : BitVec 32 := 0#32
  ![arg0.toNat, 0]
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_48 : BitVec 32 := 1#32
  let v58 : BitVec 32 := Scalar.muli v4 c1_i32_48
  let v59 : BitVec 32 := Scalar.addi c0_i32_49 v58
  v59.toNat
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_55 : BitVec 32 := 1#32
  let v66 : BitVec 32 := Scalar.muli v7 c1_i32_55
  let v67 : BitVec 32 := Scalar.addi c0_i32_56 v66
  v67.toNat
def k0_off9 (i : grid0.Coords) : Fin 2 → Nat :=
  let arg0 : BitVec 32 := BitVec.ofNat 32 (i 0).val
  let c1_i32_88 : BitVec 32 := 1#32
  ![arg0.toNat, 1]
def k0_dev9 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_89 : BitVec 32 := 1#32
  let v94 : BitVec 32 := Scalar.muli v4 c1_i32_89
  let v95 : BitVec 32 := Scalar.addi c0_i32_90 v94
  v95.toNat
def k0_dev10 (d0 : Dev nD) : Nat :=
  let c0_i32_100 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_99 : BitVec 32 := 1#32
  let v104 : BitVec 32 := Scalar.muli v7 c1_i32_99
  let v105 : BitVec 32 := Scalar.addi c0_i32_100 v104
  v105.toNat
def k0_off10 (i : grid0.Coords) (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_105 : BitVec 32 := 1#32
  let v114 : BitVec 32 := Scalar.subi v2 c1_i32_105
  let v115 : BitVec 32 := Scalar.subi v114 c0_i32_106
  let c4_i32_107 : BitVec 32 := 4#32
  let v116 : BitVec 32 := Scalar.addi v115 c4_i32_107
  let c4_i32_108 : BitVec 32 := 4#32
  let v117 : BitVec 32 := Scalar.remsi v116 c4_i32_108
  let c2048_i32_109 : BitVec 32 := 2048#32
  let v118 : BitVec 32 := Scalar.muli v117 c2048_i32_109
  let arg0 : BitVec 32 := BitVec.ofNat 32 (i 0).val
  let c512_i32_110 : BitVec 32 := 512#32
  let v119 : BitVec 32 := Scalar.muli arg0 c512_i32_110
  let v120 : BitVec 32 := Scalar.addi v118 v119
  let c0_i32_116 : BitVec 32 := 0#32
  ![v120.toNat, 0]
def k0_off11 (i : grid0.Coords) (d0 : Dev nD) (c0_i32_118 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_117 : BitVec 32 := 1#32
  let v128 : BitVec 32 := Scalar.addi v2 c1_i32_117
  let v129 : BitVec 32 := Scalar.addi v128 c0_i32_118
  let c4_i32_119 : BitVec 32 := 4#32
  let v130 : BitVec 32 := Scalar.remsi v129 c4_i32_119
  let c2048_i32_120 : BitVec 32 := 2048#32
  let v131 : BitVec 32 := Scalar.muli v130 c2048_i32_120
  let arg0 : BitVec 32 := BitVec.ofNat 32 (i 0).val
  let c512_i32_121 : BitVec 32 := 512#32
  let v132 : BitVec 32 := Scalar.muli arg0 c512_i32_121
  let v133 : BitVec 32 := Scalar.addi v131 v132
  let c2048_i32_127 : BitVec 32 := 2048#32
  ![v133.toNat, 2048]
def k0_off12 (i : grid0.Coords) : Fin 2 → Nat :=
  let arg0 : BitVec 32 := BitVec.ofNat 32 (i 0).val
  let c2_i32_170 : BitVec 32 := 2#32
  ![arg0.toNat, 2]
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_171 : BitVec 32 := 1#32
  let v171 : BitVec 32 := Scalar.muli v4 c1_i32_171
  let v172 : BitVec 32 := Scalar.addi c0_i32_172 v171
  v172.toNat
def k0_dev12 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_2 : BitVec 32 := 4#32
  let v5 : BitVec 32 := Scalar.addi v2 c4_i32_2
  let c1_i32_3 : BitVec 32 := 1#32
  let v6 : BitVec 32 := Scalar.subi v5 c1_i32_3
  let c4_i32_4 : BitVec 32 := 4#32
  let v7 : BitVec 32 := Scalar.remsi v6 c4_i32_4
  let c1_i32_181 : BitVec 32 := 1#32
  let v181 : BitVec 32 := Scalar.muli v7 c1_i32_181
  let v182 : BitVec 32 := Scalar.addi c0_i32_182 v181
  v182.toNat
-- ==== ReferenceIdeal.lean ====
abbrev S8192x8192 : Shape := ⟨2, ![8192, 8192]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .bf16⟩
  | .hbm, ⟨2, _⟩ => ⟨S8192x4096, .f32⟩
  | .hbm, ⟨3, _⟩ => ⟨S8192x4096, .bf16⟩
  | .hbm, ⟨4, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/- The kernel's devices, semaphores, cells and contents: the vocabulary of the ring proof.

   Four devices in a ring. Direction `true` is to the right (to `nxt`), `false` to the left (to `prv`). Each of four
   grid points `j` reduces a band of rows around the ring in three steps `s` in both directions at once, then passes
   the reduced blocks on in three hops `t`. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.TalkSites
public import Idealize.ShloMosaic.Lib.Transfers
public import Idealize.ShloMosaic.Lib.Memref
public import Idealize.ShloMosaic.Lib.Tactic

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)

variable {F : FTy → Type} [FloatOps F]

/-! ## The resource algebra -/

abbrev UB : Type := URounds (GSem nD τ sig) Bool
abbrev UU : Type := UR sig nD τ × (UB × Counters)

local notation "𝕄" => MT nD τ sig ℕ (Elt F) ℕ UU ℕ

abbrev EP : Emb (UR sig nD τ) (MT nD τ sig ℕ (Elt F) ℕ UU ℕ) := embL
/-- The ring cells' rounds: the left half of the right factor. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance

/-- The counters of the local copies. -/
abbrev EC : UEmb Counters (MT nD τ sig ℕ (Elt F) ℕ UU ℕ) := countersEmb

abbrev 𝒱₀ : Variants := Variants.none

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩
theorem prv_nxt (c : Dev nD) : prv (nxt c) = c := by revert c; decide
theorem nxt_prv (c : Dev nD) : nxt (prv c) = c := by revert c; decide

/-- The device that transfers in direction `d` go to, and the one they come from. -/
def nb (d : Bool) (c : Dev nD) : Dev nD := if d then nxt c else prv c
def pb (d : Bool) (c : Dev nD) : Dev nD := if d then prv c else nxt c
theorem pb_nb (d : Bool) (c : Dev nD) : pb d (nb d c) = c := by revert d c; decide
theorem nb_pb (d : Bool) (c : Dev nD) : nb d (pb d c) = c := by revert d c; decide

def ringE (d : Bool) : Dev nD ≃ Dev nD := ⟨nb d, pb d, pb_nb d, nb_pb d⟩

/-! ## Semaphores and cells -/

/-- A transfer: its grid point, its step or hop, whether it is a hop, its direction. -/
abbrev X : Type := Fin 4 × Fin 3 × Bool × Bool

/-- Where a transfer's two semaphores lie in the pool of DMA semaphores: arrays of 4×3, send before receive, right before left. -/
def xnum (rv : Bool) (x : X) : ℕ :=
  2 + (if x.2.2.1 then 48 else 0) + (if x.2.2.2 then 0 else 24) + (if rv then 12 else 0) + 3 * x.1.val + x.2.1.val

theorem xnum_lt (rv : Bool) (x : X) : xnum rv x < 98 := by
  obtain ⟨j, s, ph, d⟩ := x
  have := j.isLt; have := s.isLt
  unfold xnum; split <;> split <;> split <;> simp only <;> omega

abbrev xsem (rv : Bool) (x : X) : DmaSem sig := ⟨xnum rv x, xnum_lt rv x⟩

/-- Which transfer a number in the pool belongs to. -/
def xdec (q : ℕ) : Bool × X :=
  (decide ((q - 2) / 12 % 2 = 1), (⟨(q - 2) % 12 / 3, by omega⟩, ⟨(q - 2) % 3, by omega⟩, decide ((q - 2) / 48 = 1), decide ((q - 2) / 24 % 2 = 0)))

theorem xdec_xnum (rv : Bool) (x : X) : xdec (xnum rv x) = (rv, x) := by
  obtain ⟨j, s, ph, d⟩ := x
  have hj := j.isLt; have hs := s.isLt
  unfold xdec xnum
  cases rv <;> cases ph <;> cases d <;>
    (refine Prod.ext ?_ (Prod.ext (Fin.ext ?_) (Prod.ext (Fin.ext ?_) (Prod.ext ?_ ?_))) <;>
      simp only [if_true, if_false, Bool.false_eq_true, decide_eq_true_eq, decide_eq_false_iff_not] <;> omega)

theorem two_le_xnum (rv : Bool) (x : X) : 2 ≤ xnum rv x := by unfold xnum; omega

/-- The runtime's barrier semaphore; the two credit semaphores; the two semaphores of the local copies. -/
abbrev barS : Sem sig := (SemArray.scalar (sig.barrier 0 rfl) : Sems sig S_).sem
abbrev crS (d : Bool) : Sem sig := if d then cc0_scratch20.sem else cc0_scratch21.sem
abbrev locS (b : Bool) : DmaSem sig := if b then cc0_scratch10.sem else cc0_scratch11.sem

theorem crS_ne_bar (d : Bool) : crS d ≠ barS := by cases d <;> decide
theorem crS_inj : ∀ d d' : Bool, crS d = crS d' → d = d' := by decide

abbrev barCell (c : Dev nD) : GSem nD τ sig := ((c : Thread nD τ), .reg barS)
abbrev crCell (d : Bool) (c : Dev nD) : GSem nD τ sig := ((c : Thread nD τ), .reg (crS d))
abbrev xCell (rv : Bool) (x : X) (c : Dev nD) : GSem nD τ sig := ((c : Thread nD τ), .dma (xsem rv x))

/-- The cells of a device that carry rounds: the barrier's, the two credits', the transfers'. -/
abbrev CK : Type := Option Bool ⊕ (Bool × X)
def csem : CK → SemLoc sig
  | .inl none => .reg barS
  | .inl (some d) => .reg (crS d)
  | .inr (rv, x) => .dma (xsem rv x)
abbrev kcell (ck : Dev nD × CK) : GSem nD τ sig := ((ck.1 : Thread nD τ), csem ck.2)

theorem xsem_inj {rv rv' : Bool} {x x' : X} (h : xsem rv x = xsem rv' x') : rv = rv' ∧ x = x' := by
  have h1 : xnum rv x = xnum rv' x' := congrArg Fin.val h
  have h2 : (rv, x) = (rv', x') := by rw [← xdec_xnum, ← xdec_xnum, h1]
  exact ⟨congrArg Prod.fst h2, congrArg Prod.snd h2⟩

theorem csem_injective : Function.Injective csem := by
  rintro ((_ | d) | ⟨rv, x⟩) ((_ | d') | ⟨rv', x'⟩) h
  · rfl
  · exact absurd (SemLoc.reg.inj h).symm (crS_ne_bar d')
  · cases h
  · exact absurd (SemLoc.reg.inj h) (crS_ne_bar d)
  · rw [crS_inj _ _ (SemLoc.reg.inj h)]
  · cases h
  · cases h
  · cases h
  · obtain ⟨rfl, rfl⟩ := xsem_inj (SemLoc.dma.inj h); rfl

theorem kcell_injective : Function.Injective kcell := by
  rintro ⟨c, k⟩ ⟨c', k'⟩ h
  have h1 : c = c' := by have := congrArg (fun g : GSem nD τ sig => g.1.1) h; exact this
  subst h1
  have h2 : k = k' := csem_injective (congrArg Prod.snd h)
  rw [h2]

/-! ## The buffers -/

abbrev xH : Memref sig .tc .hbm S8192x2048 .bf16 := Memref.whole main_arg0
abbrev wH : Memref sig .tc .hbm S2048x4096 .bf16 := Memref.whole main_arg1
abbrev oH : Memref sig .tc .hbm S8192x4096 .f32 := Memref.whole main_v1
abbrev wV : Memref sig .tc .vmem S2048x4096 .bf16 := Memref.whole cc0_scratch0
abbrev xV : Memref sig .tc .vmem S512x2048 .bf16 := Memref.whole cc0_scratch1

/-- The send buffer, the landing buffer, the f32 stage and the three gathered slots of a direction. -/
abbrev sendM (d : Bool) : Memref sig .tc .vmem S512x2048 .bf16 :=
  match d with | true => Memref.whole cc0_scratch2 | false => Memref.whole cc0_scratch4
abbrev recvM (d : Bool) : Memref sig .tc .vmem S512x2048 .bf16 :=
  match d with | true => Memref.whole cc0_scratch3 | false => Memref.whole cc0_scratch5
abbrev tmpM (d : Bool) : Memref sig .tc .vmem S512x2048 .f32 :=
  match d with | true => Memref.whole cc0_scratch6 | false => Memref.whole cc0_scratch7
abbrev agW (d : Bool) : Memref sig .tc .vmem S3x512x2048 .bf16 :=
  match d with | true => Memref.whole cc0_scratch8 | false => Memref.whole cc0_scratch9

theorem inb_ag (t : Fin 3) : ∀ a, (![t.val, 0, 0] : Fin 3 → Nat) a + S1x512x2048.size a ≤ S3x512x2048.size a := by
  revert t; decide

abbrev agR (t : Fin 3) : Rect S3x512x2048 := Rect.unit (s := S3x512x2048) ![t.val, 0, 0] S1x512x2048.size (inb_ag t)
abbrev agM (d : Bool) (t : Fin 3) : Memref sig .tc .vmem S512x2048 .bf16 :=
  ((agW d).slice (agR t) (fun _ => rfl)).squeeze S512x2048 squeezes_S1x512x2048_S512x2048

/-- Ownership of a memref's elements on device `c`, read as `Y`. -/
abbrev own (c : Dev nD) {sp : Space} {sh : Shape} {e : EltTy} (M : Memref sig .tc sp sh e) (q : PosShare TreeShare)
    (Y : sh.Idx → Elt F e) : sProp 𝕄 := owns (c : Thread nD τ) M q Y
/-- The same at unknown contents, whole share. -/
def ownE (c : Dev nD) {sp : Space} {sh : Shape} {e : EltTy} (M : Memref sig .tc sp sh e) : sProp 𝕄 :=
  iprop(∃ Y, own (F := F) c M fullShare Y)

instance ownE_storable (c : Dev nD) {sp : Space} {sh : Shape} {e : EltTy} (M : Memref sig .tc sp sh e) :
    BI.Storable (upEmb : UEmb _ 𝕄) (ownE (F := F) c M) := by unfold ownE; infer_instance

/-- What a transfer of one 512×2048 bf16 block credits. -/
abbrev N : ℕ := (recvM true).view.dmaCredit
theorem N_pos : 0 < N := View.dmaCredit_pos _ (by decide)
theorem N_recv (d : Bool) : (recvM d).view.dmaCredit = N := by cases d <;> rfl
theorem N_send (d : Bool) : (sendM d).view.dmaCredit = N := by cases d <;> rfl
theorem N_xV : xV.view.dmaCredit = N := rfl
theorem N_ag (d : Bool) (t : Fin 3) : (agM d t).view.dmaCredit = N := by cases d <;> rfl

/-! ## Contents -/

variable (m : (ℓ : Loc nD τ sig) → Buf (Elt F) ℓ) (ρ : Dev nD → PrngReg)

def s₀ : MemSt nD τ sig (Elt F) := ⟨m, fun _ => 0, ρ⟩

/-- Rows `2048 a + 512 j …` of the local factor `x`. -/
theorem inb_x (a : Dev nD) (j : Fin 4) : ∀ b, (![2048 * a.val + 512 * j.val, 0] : Fin 2 → Nat) b + S512x2048.size b ≤ S8192x2048.size b := by
  revert a j; decide
abbrev xRect (a : Dev nD) (j : Fin 4) : Rect S8192x2048 := Rect.unit (s := S8192x2048) ![2048 * a.val + 512 * j.val, 0] S512x2048.size (inb_x a j)
abbrev xM (a : Dev nD) (j : Fin 4) : Memref sig .tc .hbm S512x2048 .bf16 := xH.slice (xRect a j) (fun _ => rfl)
def xband (c a : Dev nD) (j : Fin 4) : Vec F S512x2048 .bf16 := (xM a j).view.read (Elt F) (m ((c : Thread nD τ).loc main_arg0))

/-- The columns a direction works on: the right one the first 2048, the left one the rest. -/
def coff (d : Bool) : ℕ := if d then 0 else 2048
theorem inb_w (d : Bool) : ∀ b, (![0, coff d] : Fin 2 → Nat) b + S2048x2048.size b ≤ S2048x4096.size b := by revert d; decide
abbrev wRect (d : Bool) : Rect S2048x4096 := Rect.unit (s := S2048x4096) ![0, coff d] S2048x2048.size (inb_w d)
def whalf (d : Bool) (c : Dev nD) : Vec F S2048x2048 .bf16 := wV.view.readAt (Elt F) (wRect d).toLoadRect (m ((c : Thread nD τ).loc main_arg1))

/-- The block whose product enters at step `s` on device `c`. -/
def chunk (d : Bool) (c : Dev nD) : ℕ → Dev nD
  | 0 => pb d c
  | s + 1 => pb d (chunk d c s)

/-- What device `c` holds in its send buffer before step `s` of grid point `j`: its own partial product added to what came in. -/
def acc (d : Bool) (j : Fin 4) : ℕ → Dev nD → Vec F S512x2048 .bf16
  | 0, c => k0_pay5 (xband m c (chunk d c 0) j) (whalf m d c)
  | s + 1, c => k0_pay7 (k0_pay4 (k0_pay2 (xband m c (chunk d c (s + 1)) j) (whalf m d c)) (acc d j s (pb d c)))

/-- What lands in slot `t`: the reduced block from `t + 1` devices back. -/
def agC (d : Bool) (j : Fin 4) : ℕ → Dev nD → Vec F S512x2048 .bf16
  | 0, c => acc m d j 3 (pb d c)
  | t + 1, c => agC d j t (pb d c)

/-! ## The schedule -/

/-- All three gathered slots of a direction. -/
def agAll (c : Dev nD) (d : Bool) : sProp 𝕄 := iprop(ownE c (agM d 0) ∗ ownE c (agM d 1) ∗ ownE c (agM d 2))

instance agAll_storable (c : Dev nD) (d : Bool) : BI.Storable (upEmb : UEmb _ 𝕄) (agAll (F := F) c d) := by unfold agAll; infer_instance

/-- The gathered slots, when handed over. -/
def agIf (p : Prop) [Decidable p] (c : Dev nD) (d : Bool) : sProp 𝕄 := if p then agAll c d else iprop(emp)

instance agIf_storable (p : Prop) [Decidable p] (c : Dev nD) (d : Bool) : BI.Storable (upEmb : UEmb _ 𝕄) (agIf (F := F) p c d) := by
  unfold agIf; split <;> infer_instance

/-- The barrier hands device `c` the landing buffer and the slots of its neighbour in direction `d`. -/
def barPay (d : Bool) (c : Dev nD) : sProp 𝕄 := iprop(ownE (nb d c) (recvM d) ∗ agAll (nb d c) d)
/-- The credit of round `n` hands back the landing buffer, and after a grid point's hops the slots. -/
def crPay (d : Bool) (n : ℕ) (c : Dev nD) : sProp 𝕄 := iprop(ownE (nb d c) (recvM d) ∗ agIf (n % 3 = 0 ∧ 0 < n) (nb d c) d)
/-- A transfer's send semaphore hands back the source. -/
def sndPay (x : X) (c : Dev nD) : sProp 𝕄 :=
  match x with
  | (j, s, false, d) => own c (sendM d) fullShare (acc m d j s c)
  | (j, 0, true, d) => own c (sendM d) fullShare (acc m d j 3 c)
  | (j, 1, true, d) => own c (agM d 0) fullShare.left (agC m d j 0 c)
  | (j, 2, true, d) => own c (agM d 1) fullShare.left (agC m d j 1 c)
/-- Its receive semaphore hands over what landed; a step's tells besides how far the sender's credits have come. -/
def rcvPay (x : X) (c : Dev nD) : sProp 𝕄 :=
  match x with
  | (j, s, false, d) => iprop(own c (recvM d) fullShare (acc m d j s (pb d c)) ∗ reached ER (crCell d (pb d c)) (3 * j.val + s.val))
  | (j, t, true, d) => own c (agM d t) fullShare (agC m d j t c)

instance sndPay_storable (x : X) (c : Dev nD) : BI.Storable (upEmb : UEmb _ 𝕄) (sndPay m x c) := by
  obtain ⟨j, s, _ | _, d⟩ := x
  · unfold sndPay; infer_instance
  · fin_cases s <;> (unfold sndPay; infer_instance)
instance rcvPay_storable (x : X) (c : Dev nD) : BI.Storable (upEmb : UEmb _ 𝕄) (rcvPay m x c) := by
  obtain ⟨j, s, _ | _, d⟩ := x <;> (unfold rcvPay; infer_instance)
instance barPay_storable (d : Bool) (c : Dev nD) : BI.Storable (upEmb : UEmb _ 𝕄) (barPay (F := F) d c) := by unfold barPay; infer_instance
instance crPay_storable (d : Bool) (n : ℕ) (c : Dev nD) : BI.Storable (upEmb : UEmb _ 𝕄) (crPay (F := F) d n c) := by unfold crPay; infer_instance

/-- The last credit round: the last step signals none. -/
abbrev NC : ℕ := 11

def ringRd : Rounds.Schedule (GSem nD τ sig) Bool 𝕄 where
  duties g r := match g.2 with
    | .reg s => if s = barS then (if r = 0 then Finset.univ else ∅) else if s = crS true ∨ s = crS false then (if r < NC then {true} else ∅) else ∅
    | .dma q => if 2 ≤ q.val ∧ r = 0 then {true} else ∅
  unitless _ := False
  amount g _ _ := match g.2 with
    | .reg _ => 1
    | .dma _ => N
  payload g r dt := match g.2 with
    | .reg s => if s = barS then barPay dt g.1.1 else if s = crS true then crPay true r g.1.1 else crPay false r g.1.1
    | .dma q => if (xdec q.val).1 then rcvPay m (xdec q.val).2 g.1.1 else sndPay m (xdec q.val).2 g.1.1
  amount_pos g _ _ _ := by
    obtain ⟨t, s | q⟩ := g
    · exact Nat.one_pos
    · exact N_pos

instance ringRd_payload_storable (g : GSem nD τ sig) (r : ℕ) (d : Bool) :
    BI.Storable (upEmb : UEmb _ 𝕄) ((ringRd m).payload g r d) := by
  obtain ⟨t, s | q⟩ := g
  · show BI.Storable upEmb (if s = barS then barPay d t.1 else if s = crS true then crPay true r t.1 else crPay false r t.1)
    (repeat' split) <;> infer_instance
  · show BI.Storable upEmb (if (xdec q.val).1 then rcvPay m (xdec q.val).2 t.1 else sndPay m (xdec q.val).2 t.1)
    split <;> infer_instance

section Sched
variable (c : Dev nD)

theorem duties_bar : (ringRd m).duties (barCell c) 0 = Finset.univ := by dsimp only [ringRd]; rw [if_pos rfl, if_pos rfl]
theorem duties_cr (d : Bool) (r : ℕ) : (ringRd m).duties (crCell d c) r = if r < NC then {true} else ∅ := by
  dsimp only [ringRd]; rw [if_neg (crS_ne_bar d), if_pos (by cases d <;> simp)]
theorem duties_x (rv : Bool) (x : X) : (ringRd m).duties (xCell rv x c) 0 = {true} := by
  dsimp only [ringRd]; exact if_pos ⟨two_le_xnum rv x, rfl⟩
theorem duties_bar_later : ∀ r, 1 ≤ r → (ringRd m).duties (barCell c) r = ∅ := fun r hr => by
  dsimp only [ringRd]; rw [if_pos rfl, if_neg (by omega)]
theorem duties_cr_later (d : Bool) : ∀ r, NC ≤ r → (ringRd m).duties (crCell d c) r = ∅ := fun r hr => by
  rw [duties_cr, if_neg (by omega)]
theorem duties_x_later (rv : Bool) (x : X) : ∀ r, 1 ≤ r → (ringRd m).duties (xCell rv x c) r = ∅ := fun r hr => by
  dsimp only [ringRd]; exact if_neg (fun h => by omega)

theorem amount_reg (s : Sem sig) (r : ℕ) (d : Bool) : (ringRd m).amount ((c : Thread nD τ), .reg s) r d = 1 := rfl
theorem amount_x (q : DmaSem sig) (r : ℕ) (d : Bool) : (ringRd m).amount ((c : Thread nD τ), .dma q) r d = N := rfl

theorem expect_bar : (ringRd m).expect (barCell c) 0 = 2 := by
  unfold Schedule.expect Schedule.amountOf
  rw [duties_bar, Finset.sum_congr rfl fun d _ => amount_reg m c barS 0 d, Finset.sum_const, Finset.card_univ, Fintype.card_bool, smul_eq_mul]
theorem expect_cr (d : Bool) {r : ℕ} (hr : r < NC) : (ringRd m).expect (crCell d c) r = 1 := by
  unfold Schedule.expect Schedule.amountOf; rw [duties_cr, if_pos hr, Finset.sum_singleton, amount_reg]
theorem expect_x (rv : Bool) (x : X) : (ringRd m).expect (xCell rv x c) 0 = N := by
  unfold Schedule.expect Schedule.amountOf; rw [duties_x, Finset.sum_singleton, amount_x]

theorem payload_bar (d : Bool) : (ringRd m).payload (barCell c) 0 d = barPay d c := by dsimp only [ringRd]; rw [if_pos rfl]
theorem payload_cr (d : Bool) (r : ℕ) (dt : Bool) : (ringRd m).payload (crCell d c) r dt = crPay d r c := by
  dsimp only [ringRd]; rw [if_neg (crS_ne_bar d)]; cases d
  · exact if_neg (fun h => absurd (crS_inj _ _ h) (by decide))
  · exact if_pos rfl
theorem payload_rcv (x : X) (dt : Bool) : (ringRd m).payload (xCell true x c) 0 dt = rcvPay m x c := by
  show (if (xdec (xnum true x)).1 then rcvPay m (xdec (xnum true x)).2 c else sndPay m (xdec (xnum true x)).2 c) = _
  rw [xdec_xnum]; exact if_pos rfl
theorem payload_snd (x : X) (dt : Bool) : (ringRd m).payload (xCell false x c) 0 dt = sndPay m x c := by
  show (if (xdec (xnum false x)).1 then rcvPay m (xdec (xnum false x)).2 c else sndPay m (xdec (xnum false x)).2 c) = _
  rw [xdec_xnum]; exact if_neg Bool.false_ne_true

theorem rest_bar : bigSep ((ringRd m).duties (barCell c) 0 \ ∅) (fun d => (ringRd m).payload (barCell c) 0 d) = iprop(barPay true c ∗ barPay false c) := by
  rw [Finset.sdiff_empty, duties_bar, bigSep_univ_eq_bigSepL [true, false] (by decide) (by decide), bigSepL_cons_cons, bigSepL_singleton,
    payload_bar, payload_bar]
  rfl
theorem rest_cr (d : Bool) {r : ℕ} (hr : r < NC) :
    bigSep ((ringRd m).duties (crCell d c) r \ ∅) (fun dt => (ringRd m).payload (crCell d c) r dt) = crPay d r c := by
  rw [Finset.sdiff_empty, duties_cr, if_pos hr, bigSep_singleton, payload_cr]
theorem rest_rcv (x : X) : bigSep ((ringRd m).duties (xCell true x c) 0 \ ∅) (fun dt => (ringRd m).payload (xCell true x c) 0 dt) = rcvPay m x c := by
  rw [Finset.sdiff_empty, duties_x, bigSep_singleton, payload_rcv]
theorem rest_snd (x : X) : bigSep ((ringRd m).duties (xCell false x c) 0 \ ∅) (fun dt => (ringRd m).payload (xCell false x c) 0 dt) = sndPay m x c := by
  rw [Finset.sdiff_empty, duties_x, bigSep_singleton, payload_snd]

end Sched

/-! ## What each device owes, and the levels -/

/-- Levels in the order of the run: the barrier at 1, grid point `j`'s step `s` at `2 + 18 j + 4 s`, its credit two above,
    its hop `t` at `14 + 18 j + 2 t`; local copies and send semaphores at 0. A wait's level is below all still owed. -/
def iX (x : X) : ℕ := if x.2.2.1 then 14 + 18 * x.1.val + 2 * x.2.1.val else 2 + 18 * x.1.val + 4 * x.2.1.val
def iC (n : ℕ) : ℕ := 4 + 18 * (n / 3) + 4 * (n % 3)
abbrev NL : ℕ := 100

abbrev payX (c : Dev nD) (x : X) : Pay nD τ sig := (xCell true x (nb x.2.2.2 c), iX x, N)
abbrev payC (c : Dev nD) (n : ℕ) (d : Bool) : Pay nD τ sig := (crCell d (pb d c), iC n, 1)

def dCR (c : Dev nD) (n : ℕ) : List (Pay nD τ sig) := if n < NC then [payC c n true, payC c n false] else []
def dRS (c : Dev nD) (j : Fin 4) (s : Fin 3) : List (Pay nD τ sig) :=
  payX c (j, s, false, true) :: payX c (j, s, false, false) :: dCR c (3 * j.val + s.val)
def dAG (c : Dev nD) (j : Fin 4) (t : Fin 3) : List (Pay nD τ sig) := [payX c (j, t, true, true), payX c (j, t, true, false)]
def dBar (c : Dev nD) : List (Pay nD τ sig) := [(barCell (pb true c), 1, 1), (barCell (pb false c), 1, 1)]
/-- From step `s` of a grid point on, its steps' dues. -/
def dSt (c : Dev nD) (j : Fin 4) (s : ℕ) : List (Pay nD τ sig) := ((List.finRange 3).drop s).flatMap (dRS c j)
def dHop (c : Dev nD) (j : Fin 4) (t : ℕ) : List (Pay nD τ sig) := ((List.finRange 3).drop t).flatMap (dAG c j)
def dFrom (c : Dev nD) (j : ℕ) : List (Pay nD τ sig) := ((List.finRange 4).drop j).flatMap fun j => dSt c j 0 ++ dHop c j 0

theorem drop_flatMap {α β : Type} {n : ℕ} (f : Fin n → List β) (k : Fin n) :
    ((List.finRange n).drop k.val).flatMap f = f k ++ ((List.finRange n).drop (k.val + 1)).flatMap f := by
  have h : (List.finRange n).drop k.val = k :: (List.finRange n).drop (k.val + 1) := by
    rw [List.drop_eq_getElem_cons (by simp)]; simp
  rw [h, List.flatMap_cons]

theorem dSt_step (c : Dev nD) (j : Fin 4) (s : Fin 3) : dSt c j s = dRS c j s ++ dSt c j (s.val + 1) := drop_flatMap (α := ℕ) _ s
theorem dHop_step (c : Dev nD) (j : Fin 4) (t : Fin 3) : dHop c j t = dAG c j t ++ dHop c j (t.val + 1) := drop_flatMap (α := ℕ) _ t
theorem dFrom_step (c : Dev nD) (j : Fin 4) : dFrom c j = (dSt c j 0 ++ dHop c j 0) ++ dFrom c (j.val + 1) :=
  drop_flatMap (α := ℕ) (fun j => dSt c j 0 ++ dHop c j 0) j
theorem dSt_end (c : Dev nD) (j : Fin 4) : dSt c j 3 = [] := rfl
theorem dHop_end (c : Dev nD) (j : Fin 4) : dHop c j 3 = [] := rfl
theorem dFrom_end (c : Dev nD) : dFrom c 4 = [] := rfl

/-- Every payment of `l` is to a TensorCore's cell, at a level in `[p, NL)`. -/
def LB (p : ℕ) (l : List (Pay nD τ sig)) : Prop := ∀ x ∈ l, x.1.1.2 = .tc ∧ p ≤ x.2.1 ∧ x.2.1 < NL

theorem LB.nil (p : ℕ) : LB p [] := fun x h => by cases h
theorem LB.append {p : ℕ} {l l' : List (Pay nD τ sig)} (h : LB p l) (h' : LB p l') : LB p (l ++ l') := fun x hx => by
  rcases List.mem_append.mp hx with hx | hx
  · exact h x hx
  · exact h' x hx
theorem LB.cons {p : ℕ} {x : Pay nD τ sig} {l : List (Pay nD τ sig)} (h1 : x.1.1.2 = .tc) (h2 : p ≤ x.2.1) (h3 : x.2.1 < NL) (h : LB p l) : LB p (x :: l) := fun y hy => by
  rcases List.mem_cons.mp hy with rfl | hy
  · exact ⟨h1, h2, h3⟩
  · exact h y hy
theorem LB.mono {p p' : ℕ} {l : List (Pay nD τ sig)} (h : LB p l) (hp : p' ≤ p) : LB p' l := fun x hx =>
  ⟨(h x hx).1, by have := (h x hx).2.1; omega, (h x hx).2.2⟩
theorem LB.tail {p : ℕ} {x : Pay nD τ sig} {l : List (Pay nD τ sig)} (h : LB p (x :: l)) : LB p l := fun y hy => h y (List.mem_cons_of_mem _ hy)
theorem LB.flatMap {p : ℕ} {α : Type} {l : List α} {f : α → List (Pay nD τ sig)} (h : ∀ a ∈ l, LB p (f a)) : LB p (l.flatMap f) := fun x hx => by
  obtain ⟨a, ha, hx⟩ := List.mem_flatMap.mp hx
  exact h a ha x hx

theorem iC_lt {n : ℕ} (hn : n < NC) : iC n < NL := by unfold iC NL; unfold NC at hn; omega
theorem LB_cr (c : Dev nD) (n p : ℕ) (hp : p ≤ iC n) : LB p (dCR c n) := by
  unfold dCR; split
  · next h => exact .cons rfl hp (iC_lt h) (.cons rfl hp (iC_lt h) (.nil _))
  · exact .nil _
theorem LB_rs (c : Dev nD) (j : Fin 4) (s : Fin 3) : LB (2 + 18 * j.val + 4 * s.val) (dRS c j s) := by
  have hj := j.isLt; have hs := s.isLt
  unfold dRS
  refine .cons rfl ?_ ?_ (.cons rfl ?_ ?_ (LB_cr c _ _ ?_))
  · simp [iX]
  · simp [iX, NL]; omega
  · simp [iX]
  · simp [iX, NL]; omega
  · unfold iC; omega
theorem LB_ag (c : Dev nD) (j : Fin 4) (t : Fin 3) : LB (14 + 18 * j.val + 2 * t.val) (dAG c j t) := by
  have hj := j.isLt; have hs := t.isLt
  unfold dAG
  refine .cons rfl ?_ ?_ (.cons rfl ?_ ?_ (.nil _))
  · simp [iX]
  · simp [iX, NL]; omega
  · simp [iX]
  · simp [iX, NL]; omega

theorem mem_drop_finRange {n k : ℕ} {a : Fin n} (h : a ∈ (List.finRange n).drop k) : k ≤ a.val := by
  obtain ⟨i, hi, rfl⟩ := List.mem_drop_iff_getElem.mp h
  simp

theorem LB_st (c : Dev nD) (j : Fin 4) (s : ℕ) : LB (2 + 18 * j.val + 4 * s) (dSt c j s) :=
  .flatMap fun a ha => (LB_rs c j a).mono (by have := mem_drop_finRange ha; omega)
theorem LB_hop (c : Dev nD) (j : Fin 4) (t : ℕ) : LB (14 + 18 * j.val + 2 * t) (dHop c j t) :=
  .flatMap fun a ha => (LB_ag c j a).mono (by have := mem_drop_finRange ha; omega)
theorem LB_from (c : Dev nD) (j : ℕ) : LB (2 + 18 * j) (dFrom c j) :=
  .flatMap fun a ha => .append ((LB_st c a 0).mono (by have := mem_drop_finRange ha; omega)) ((LB_hop c a 0).mono (by have := mem_drop_finRange ha; omega))

/-- A wait at level `i` is allowed while only higher levels are owed. -/
theorem mayWait (c : Dev nD) (sm : SemLoc sig) (i : ℕ) (hi : i < NL) {l : List (Pay nD τ sig)} (h : LB (i + 1) l) :
    (levAts (SiteBlocks.L NL) SiteBlocks.lv : sProp 𝕄) ⊢ MayWait (c : Thread nD τ) sm i (tallyL l) :=
  SiteBlocks.mayWait_of hi c sm _ fun g k hk => by
    obtain ⟨x, hx, rfl, rfl⟩ := tallyL_pos hk
    obtain ⟨h1, h2, h3⟩ := h x hx
    exact ⟨SiteBlocks.mem_L' h1 h3, by omega⟩

end Cert.Ring

end
-- ==== Proof.Steps.lean ====
/- One rule per operation of the kernel, over the ring's cells: a send, a wait for a transfer, a credit given or taken,
   the barrier, a local copy, a load, a store. -/
module

public import proofs.«01_k».proof.Proof.Common
public import Idealize.ShloMosaic.Lib.SparseCore.ProtocolKit

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL tallyL_append tallyL_pos)

variable {F : FTy → Type} [FloatOps F]

local notation "𝕄" => MT nD τ sig ℕ (Elt F) ℕ UU ℕ

variable (m : (ℓ : Loc nD τ sig) → Buf (Elt F) ℓ)

/-! ## What every step reads -/

/-- Every cell's invariant, and that its first round is open. -/
def recs (K : Dev nD × CK → ℕ) : sProp 𝕄 :=
  bigSep Finset.univ fun ck => iprop(cellInv ER (ringRd m) (K ck) (kcell ck) ∗ reached ER (kcell ck) 0)

instance recs_persistent (K : Dev nD × CK → ℕ) : BI.Persistent (recs m K) := by unfold recs; infer_instance

def ctx (K : Dev nD × CK → ℕ) : sProp 𝕄 := iprop(recs m K ∗ levAts (SiteBlocks.L NL) SiteBlocks.lv)

instance ctx_persistent (K : Dev nD × CK → ℕ) : BI.Persistent (ctx m K) := by unfold ctx; infer_instance

theorem ctx_cell (K : Dev nD × CK → ℕ) (ck : Dev nD × CK) :
    ctx m K ⊢ iprop(cellInv ER (ringRd m) (K ck) (kcell ck) ∗ reached ER (kcell ck) 0) := by
  classical
  unfold ctx recs
  have h : bigSep Finset.univ (fun ck => iprop(cellInv ER (ringRd m) (K ck) (kcell ck) ∗ reached ER (kcell ck) 0))
      ⊢ iprop(cellInv ER (ringRd m) (K ck) (kcell ck) ∗ reached ER (kcell ck) 0) := bigSep_elim (Finset.mem_univ ck)
  iintro ⟨Hr, -⟩
  iapply h $$ Hr

theorem ctx_x (K : Dev nD × CK → ℕ) (rv : Bool) (x : X) (c : Dev nD) :
    ctx m K ⊢ iprop(cellInv ER (ringRd m) (K (c, .inr (rv, x))) (xCell rv x c) ∗ reached ER (xCell rv x c) 0) := ctx_cell m K (c, .inr (rv, x))
theorem ctx_cr (K : Dev nD × CK → ℕ) (d : Bool) (c : Dev nD) :
    ctx m K ⊢ iprop(cellInv ER (ringRd m) (K (c, .inl (some d))) (crCell d c) ∗ reached ER (crCell d c) 0) := ctx_cell m K (c, .inl (some d))
theorem ctx_bar (K : Dev nD × CK → ℕ) (c : Dev nD) :
    ctx m K ⊢ iprop(cellInv ER (ringRd m) (K (c, .inl none)) (barCell c) ∗ reached ER (barCell c) 0) := ctx_cell m K (c, .inl none)

/-- Device `c` owes the payments of `l`, whatever it has waited for. -/
def owe (c : Dev nD) (l : List (Pay nD τ sig)) : sProp 𝕄 := iprop(∃ W, owes (c : Thread nD τ) (tallyL l) W)

theorem ctx_wait (K : Dev nD × CK → ℕ) (c : Dev nD) (sm : SemLoc sig) (i : ℕ) (hi : i < NL) {l : List (Pay nD τ sig)} (h : LB (i + 1) l) :
    ctx m K ⊢ MayWait (c : Thread nD τ) sm i (tallyL l) := by
  unfold ctx
  iintro ⟨-, H⟩
  iapply (mayWait c sm i hi h) $$ H

theorem tallyL_cons (x : Pay nD τ sig) (l : List (Pay nD τ sig)) : tallyL (x :: l) = tallyL l + tallyAt x.1 x.2.1 x.2.2 :=
  add_comm (Pay.tally x) (tallyL l)

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × CK → ℕ) (c : Dev nD) {α : Type} {Q : α → sProp (MT nD τ sig ℕ (Elt F) ℕ UU ℕ)}

/-! ## Remote copies -/

/-- A transfer `x` from `src` into the neighbour's `dst`: source and destination are handed in, a send credit comes back. -/
theorem wp_xsend (x : X) {sp sp' : Space} {n : Dev nD} (hn : n = nb x.2.2.2 c)
    {src : Memref sig .tc sp S512x2048 .bf16} {dst : Memref sig .tc sp' S512x2048 .bf16} {qS qR : DmaSem sig}
    (hS : qS = xsem false x) (hR : qR = xsem true x) (hN : dst.view.dmaCredit = N)
    {hsc : (show Memref sig (Dev.tc n : Thread nD τ).2.kind sp' S512x2048 .bf16 from dst).view.ref.isScScratch = false}
    {hsrc : src.view.WordExact} {hdst : dst.view.WordExact}
    {hsem : DmaTarget.Typed sp (.dma qR) (.remote (Dev.tc n : Thread nD τ) (show Memref sig (Dev.tc n : Thread nD τ).2.kind sp' S512x2048 .bf16 from dst) (.dma qS) hsc)}
    {k : PUnit → Prog (TpuEff nD τ sig (Elt F) Λ₀ .tc) α} {q : PosShare TreeShare} {Y : S512x2048.Idx → Elt F .bf16} {R : sProp 𝕄} {l : List (Pay nD τ sig)}
    (h1 : own c src q Y ⊢ sndPay m x c) (h2 : iprop(own (nb x.2.2.2 c) dst fullShare Y ∗ R) ⊢ rcvPay m x (nb x.2.2.2 c)) :
    iprop(ctx m K ∗ own c src q Y ∗ ownE (nb x.2.2.2 c) dst ∗ R ∗ owe c (payX c x :: l)
        ∗ dutyTok ER (xCell false x c) 0 true ∗ dutyTok ER (xCell true x (nb x.2.2.2 c)) 0 true)
      ⊢ iprop(((cred (tallyAt (xCell false x c) 0 N) ∗ owe c l) -∗ WP c (k ⟨⟩) Q)
          -∗ WP c (.op (.enqueueDma src (.remote (Dev.tc n : Thread nD τ) dst (.dma qS) hsc) (.dma qR) hsrc hdst hsem) k) Q) := by
  subst hn hS hR
  unfold ownE owe own owns
  iintro ⟨#Hctx, ⟨%fs, %hfs, Hs⟩, ⟨%Y', %fd, %hfd, Hd⟩, HR, ⟨%W, HO⟩, Ht1, Ht2⟩ Hk
  ihave ⟨#Hi1, #Hr1⟩ := (ctx_x m K false x c) $$ Hctx
  ihave ⟨#Hi2, #Hr2⟩ := (ctx_x m K true x (nb x.2.2.2 c)) $$ Hctx
  iapply (Rounds.wp_send_pointsTo_with 𝒱₀ ER (ringRd m) (c : Thread nD τ) none (κ₁ := K (c, .inr (false, x))) (κ₂ := K (nb x.2.2.2 c, .inr (true, x)))
    (r₁ := 0) (r₂ := 0) (d₁ := true) (d₂ := true) (fs := fs) (fd := fd) (F := R) (q := q)
    (by rw [duties_x]; exact Finset.mem_singleton_self _) (by rw [duties_x]; exact Finset.mem_singleton_self _)
    (iX x) 0 N (show View.amount dst.view (.dma _) = N from hN) (amount_x m c _ 0 true) (amount_x m (nb x.2.2.2 c) _ 0 true) (tallyL l)
    (tallyL_cons (payX c x) l) (W := W)
    ?_ ?_) $$ [Hs Hd HR HO Ht1 Ht2]
  · rw [payload_snd]; refine .trans ?_ h1
    rw [← hfs]; exact owns_intro (c : Thread nD τ) src q fs
  · rw [payload_rcv]; refine .trans (sep_mono_left ?_) h2
    refine .trans (owns_intro (nb x.2.2.2 c : Thread nD τ) dst fullShare _) ?_
    rw [View.read_write_univ, hfs]
  · isplitr; · iexact Hi1
    isplitr; · iexact Hi2
    isplitl [Hs]; · iexact Hs
    isplitl [Hd HR]
    · isplitl [Hd]; · iexact Hd
      iexact HR
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- The payload that a transfer's semaphore hands over. -/
def xPay (rv : Bool) (x : X) (c : Dev nD) : sProp 𝕄 := if rv then rcvPay m x c else sndPay m x c

theorem rest_x (rv : Bool) (x : X) :
    bigSep ((ringRd m).duties (xCell rv x c) 0 \ ∅) (fun dt => (ringRd m).payload (xCell rv x c) 0 dt) = xPay m rv x c := by
  cases rv
  · exact rest_snd m c x
  · exact rest_rcv m c x

/-- A wait for a transfer: its payload, and its cell closed at zero. -/
theorem wp_xwait (rv : Bool) (x : X) {sp sp' : Space} {s' : Shape} {e' : EltTy}
    {src : Memref sig .tc sp s' e'} {dst : Memref sig .tc sp' S512x2048 .bf16} {q : DmaSem sig}
    (hq : q = xsem rv x) (hN : dst.view.dmaCredit = N) (i : ℕ) (hi : i < NL) {l : List (Pay nD τ sig)} (hl : LB (i + 1) l)
    {hsrc : src.view.WordExact} {hdst : dst.view.WordExact}
    {k : PUnit → Prog (TpuEff nD τ sig (Elt F) Λ₀ .tc) α} :
    iprop(ctx m K ∗ cred (tallyAt (xCell rv x c) i N) ∗ owe c l ∗ atPos ER (xCell rv x c) 0 ∅ 0)
      ⊢ iprop(((xPay m rv x c ∗ semVal (xCell rv x c) 0 ∗ owe c l) -∗ WP c (k ⟨⟩) Q)
          -∗ WP c (.op (.waitDma2 q src dst hsrc hdst) k) Q) := by
  subst hq
  unfold owe
  iintro ⟨#Hctx, Hc, ⟨%W, HO⟩, Hat⟩ Hk
  ihave ⟨#Hi, -⟩ := (ctx_x m K rv x c) $$ Hctx
  ihave #Hmw := (ctx_wait m K c (.dma (xsem rv x)) i hi hl) $$ Hctx
  iapply (Rounds.wp_wait_rest_token 𝒱₀ ER (ringRd m) (c : Thread nD τ) none (κ := K (c, .inr (rv, x)))
    (wpE_waitDma2_eq 𝒱₀ (c : Thread nD τ) none Set.univ) (Set.mem_univ _) i (R := 0) (m := 0) (T := ∅)
    (by rw [expect_x]; exact (Nat.zero_add _).trans hN)) $$ [Hc HO Hat]
  · rw [hN]
    isplitr; · iexact Hi
    isplitl [Hc]; · iexact Hc
    isplitl [HO]; · iexact HO
    isplitr; · iexact Hmw
    iexact Hat
  iintro ⟨HO, Hat, -, Hp⟩
  imod (Rounds.cell_close ER (ringRd m) (Set.mem_univ _) (fun h => h) (R := 1) (duties_x_later m c rv x)) $$ [Hat] with Hz
  · isplitr; · iexact Hi
    iexact Hat
  iapply Hk
  isplitl [Hp]
  · ihave Hp := (Entails.of_eq (rest_x m c rv x)) $$ Hp
    iexact Hp
  isplitl [Hz]; · iexact Hz
  iexists _; iexact HO

/-! ## Credits -/

theorem wp_crwait (d : Bool) (n : ℕ) (hn : n < NC) {s : Sem sig} (hs : s = crS d) {l : List (Pay nD τ sig)} (hl : LB (iC n + 1) l)
    {k : PUnit → Prog (TpuEff nD τ sig (Elt F) Λ₀ .tc) α} :
    iprop(ctx m K ∗ cred (tallyAt (crCell d c) (iC n) 1) ∗ owe c l ∗ atPos ER (crCell d c) n ∅ 0)
      ⊢ iprop(((crPay d n c ∗ reached ER (crCell d c) (n + 1) ∗ atPos ER (crCell d c) (n + 1) ∅ 0 ∗ owe c l) -∗ WP c (k ⟨⟩) Q)
          -∗ WP c (.op (.semWait s 1) k) Q) := by
  subst hs
  unfold owe
  iintro ⟨#Hctx, Hc, ⟨%W, HO⟩, Hat⟩ Hk
  ihave ⟨#Hi, -⟩ := (ctx_cr m K d c) $$ Hctx
  ihave #Hmw := (ctx_wait m K c (.reg (crS d)) (iC n) (iC_lt hn) hl) $$ Hctx
  iapply (Rounds.wp_wait_rest_token 𝒱₀ ER (ringRd m) (c : Thread nD τ) none (κ := K (c, .inl (some d)))
    (wpE_semWait_eq 𝒱₀ (c : Thread nD τ) none Set.univ) (Set.mem_univ _) (iC n) (R := n) (m := 0) (T := ∅)
    (by rw [expect_cr m c d hn])) $$ [Hc HO Hat]
  · isplitr; · iexact Hi
    isplitl [Hc]; · iexact Hc
    isplitl [HO]; · iexact HO
    isplitr; · iexact Hmw
    iexact Hat
  iintro ⟨HO, Hat, Hr, Hp⟩
  iapply Hk
  isplitl [Hp]; · rw [← rest_cr m c d hn]; iexact Hp
  isplitl [Hr]; · iexact Hr
  isplitl [Hat]; · iexact Hat
  iexists _; iexact HO

theorem crPay_pb (d : Bool) (n : ℕ) : crPay (F := F) d n (pb d c) = iprop(ownE c (recvM d) ∗ agIf (n % 3 = 0 ∧ 0 < n) c d) := by
  unfold crPay; rw [nb_pb]

theorem wp_crsignal (d : Bool) (n : ℕ) (hn : n < NC) {s : Sem sig} (hs : s = crS d) {v : Dev nD} (hv : v = pb d c) {l : List (Pay nD τ sig)}
    {k : PUnit → Prog (TpuEff nD τ sig (Elt F) Λ₀ .tc) α} :
    iprop(ctx m K ∗ owe c (payC c n d :: l) ∗ dutyTok ER (crCell d (pb d c)) n true ∗ ownE c (recvM d) ∗ agIf (n % 3 = 0 ∧ 0 < n) c d
        ∗ reached ER (crCell d (pb d c)) n)
      ⊢ iprop((owe c l -∗ WP c (k ⟨⟩) Q) -∗ WP c (.op (.semSignal (Dev.tc v : Thread nD τ) s 1) k) Q) := by
  subst hs hv
  unfold owe
  iintro ⟨#Hctx, ⟨%W, HO⟩, Ht, Hp, Hp', Hr⟩ Hk
  ihave ⟨#Hi, -⟩ := (ctx_cr m K d (pb d c)) $$ Hctx
  iapply (Rounds.wp_signal 𝒱₀ ER (ringRd m) (c : Thread nD τ) none (κ := K (pb d c, .inl (some d))) (r := n) (d := true)
    (by rw [duties_cr, if_pos hn]; exact Finset.mem_singleton_self _) (amount_reg m (pb d c) _ n true) (iC n) (tallyL l)
    (tallyL_cons (payC c n d) l) (W := W)) $$ [HO Ht Hp Hp' Hr]
  · isplitr; · iexact Hi
    isplitl [HO]; · iexact HO
    isplitl [Ht]; · iexact Ht
    isplitl [Hp Hp']
    · rw [payload_cr, crPay_pb]
      isplitl [Hp]; · iexact Hp
      iexact Hp'
    iexact Hr
  iintro HO
  iapply Hk; iexists W; iexact HO

/-! ## The barrier -/

theorem wp_barsignal (d : Bool) {s : Sem sig} (hs : s = barS) {v : Dev nD} (hv : v = pb d c) {l : List (Pay nD τ sig)}
    {k : PUnit → Prog (TpuEff nD τ sig (Elt F) Λ₀ .tc) α} :
    iprop(ctx m K ∗ owe c ((barCell (pb d c), 1, 1) :: l) ∗ dutyTok ER (barCell (pb d c)) 0 d ∗ ownE c (recvM d) ∗ agAll c d)
      ⊢ iprop((owe c l -∗ WP c (k ⟨⟩) Q) -∗ WP c (.op (.semSignal (Dev.tc v : Thread nD τ) s 1) k) Q) := by
  subst hs hv
  unfold owe
  iintro ⟨#Hctx, ⟨%W, HO⟩, Ht, Hp, Hp'⟩ Hk
  ihave ⟨#Hi, #Hr⟩ := (ctx_bar m K (pb d c)) $$ Hctx
  iapply (Rounds.wp_signal 𝒱₀ ER (ringRd m) (c : Thread nD τ) none (κ := K (pb d c, .inl none)) (r := 0) (d := d)
    (by rw [duties_bar]; exact Finset.mem_univ _) (amount_reg m (pb d c) _ 0 d) 1 (tallyL l)
    (tallyL_cons (barCell (pb d c), 1, 1) l) (W := W)) $$ [HO Ht Hp Hp']
  · isplitr; · iexact Hi
    isplitl [HO]; · iexact HO
    isplitl [Ht]; · iexact Ht
    isplitl [Hp Hp']
    · rw [payload_bar]
      unfold barPay
      rw [nb_pb]
      isplitl [Hp]; · iexact Hp
      iexact Hp'
    iexact Hr
  iintro HO
  iapply Hk; iexists W; iexact HO

theorem wp_barwait {s : Sem sig} (hs : s = barS) {l : List (Pay nD τ sig)} (hl : LB 2 l)
    {k : PUnit → Prog (TpuEff nD τ sig (Elt F) Λ₀ .tc) α} :
    iprop(ctx m K ∗ cred (tallyAt (barCell c) 1 2) ∗ owe c l ∗ atPos ER (barCell c) 0 ∅ 0)
      ⊢ iprop(((barPay true c ∗ barPay false c ∗ semVal (barCell c) 0 ∗ owe c l) -∗ WP c (k ⟨⟩) Q)
          -∗ WP c (.op (.semWait s 2) k) Q) := by
  subst hs
  unfold owe
  iintro ⟨#Hctx, Hc, ⟨%W, HO⟩, Hat⟩ Hk
  ihave ⟨#Hi, -⟩ := (ctx_bar m K c) $$ Hctx
  ihave #Hmw := (ctx_wait m K c (.reg barS) 1 (by decide) hl) $$ Hctx
  iapply (Rounds.wp_wait_rest_token 𝒱₀ ER (ringRd m) (c : Thread nD τ) none (κ := K (c, .inl none))
    (wpE_semWait_eq 𝒱₀ (c : Thread nD τ) none Set.univ) (Set.mem_univ _) 1 (R := 0) (m := 0) (T := ∅)
    (by rw [expect_bar m c])) $$ [Hc HO Hat]
  · isplitr; · iexact Hi
    isplitl [Hc]; · iexact Hc
    isplitl [HO]; · iexact HO
    isplitr; · iexact Hmw
    iexact Hat
  iintro ⟨HO, Hat, -, Hp⟩
  imod (Rounds.cell_close ER (ringRd m) (Set.mem_univ _) (fun h => h) (R := 1) (duties_bar_later m c)) $$ [Hat] with Hz
  · isplitr; · iexact Hi
    iexact Hat
  iapply Hk
  ihave Hp := (Entails.of_eq (rest_bar m c)) $$ Hp
  icases Hp with ⟨H1, H2⟩
  isplitl [H1]; · iexact H1
  isplitl [H2]; · iexact H2
  isplitl [Hz]; · iexact Hz
  iexists _; iexact HO

/-! ## Local copies -/

/-- A local copy in flight on semaphore `b`, delivering `P`. -/
def Fl (b : Bool) (n : ℕ) (P : sProp 𝕄) : sProp 𝕄 := Transfers.Flight EC (c : Thread nD τ) (.dma (locS b)) 0 n P

theorem wp_lstart (b : Bool) {sp sp' : Space} {sh : Shape} {e : EltTy} {src : Memref sig .tc sp sh e} {dst : Memref sig .tc sp' sh e} {s : DmaSem sig}
    (hs : s = locS b) (n : ℕ) (hN : dst.view.dmaCredit = n) (hn : 0 < n)
    {hsrc : src.view.WordExact} {hdst : dst.view.WordExact} {hsem : DmaTarget.Typed (nD := nD) (τ := τ) (p := Proc.tc) sp (.dma s) (.here dst)}
    {k : PUnit → Prog (TpuEff nD τ sig (Elt F) Λ₀ .tc) α} {q : PosShare TreeShare} {Y : sh.Idx → Elt F e} :
    iprop(own (F := F) c src q Y ∗ ownE (F := F) c dst ∗ semVal ((c : Thread nD τ), .dma (locS b)) 0)
      ⊢ iprop((Fl c b n iprop(own c dst fullShare Y ∗ own c src q Y) -∗ WP c (k ⟨⟩) Q)
          -∗ WP c (.op (.enqueueDma src (.here dst) (.dma s) hsrc hdst hsem) k) Q) := by
  subst hs
  unfold ownE own owns
  iintro ⟨⟨%fs, %hfs, Hs⟩, ⟨%Y', %fd, %hfd, Hd⟩, Hz⟩ Hk
  iapply (Transfers.wp_dmaLocal EC 𝒱₀ (c : Thread nD τ) none (fs := fs) (fd := fd) (q := q) 0 n (show View.amount dst.view (.dma _) = n from hN) hn (Finset.Subset.refl _)) $$ [Hs Hd Hz]
  · isplitl [Hs]; · iexact Hs
    isplitl [Hd]; · iexact Hd
    iexact Hz
  iintro Hf
  iapply Hk
  unfold Fl
  iapply (Transfers.Flight_mono EC (c : Thread nD τ) ?_) $$ Hf
  refine BIClass.sep_mono ?_ ?_
  · iintro H; iexists _; isplitr
    rotate_left
    · iexact H
    ipureintro
    rw [View.read_write_univ]; exact hfs
  · iintro H; iexists fs; isplitr
    · ipureintro; exact hfs
    iexact H

theorem wp_lwait (b : Bool) {sp sp' : Space} {s' sh : Shape} {e' e : EltTy} {src : Memref sig .tc sp s' e'} {dst : Memref sig .tc sp' sh e} {s : DmaSem sig}
    (hs : s = locS b) (n : ℕ) (hN : dst.view.dmaCredit = n) {l : List (Pay nD τ sig)} (hl : LB 1 l)
    {hsrc : src.view.WordExact} {hdst : dst.view.WordExact}
    {k : PUnit → Prog (TpuEff nD τ sig (Elt F) Λ₀ .tc) α} {P : sProp 𝕄} :
    iprop(ctx m K ∗ Fl c b n P ∗ owe c l)
      ⊢ iprop(((P ∗ semVal ((c : Thread nD τ), .dma (locS b)) 0 ∗ owe c l) -∗ WP c (k ⟨⟩) Q)
          -∗ WP c (.op (.waitDma2 s src dst hsrc hdst) k) Q) := by
  subst hs
  unfold owe Fl
  iintro ⟨#Hctx, Hf, ⟨%W, HO⟩⟩ Hk
  ihave #Hmw := (ctx_wait m K c (.dma (locS b)) 0 (by decide) hl) $$ Hctx
  iapply (Transfers.wp_waitLocalO EC 𝒱₀ (c : Thread nD τ) none 0 hN) $$ [Hf HO]
  · isplitl [Hf]; · iexact Hf
    isplitl [HO]; · iexact HO
    iexact Hmw
  iintro ⟨HP, Hz, HO⟩
  iapply Hk
  isplitl [HP]; · iexact HP
  isplitl [Hz]; · iexact Hz
  iexists _; iexact HO

/-! ## Loads and stores -/

theorem hz : (![0, 0] : Fin 2 → Nat) = fun _ => 0 := funext fun a => by fin_cases a <;> rfl

/-- A load through a rectangle, of a memref held at contents `Y`. -/
theorem wp_ld {sp : CoreSpace} {sh : Shape} {e : EltTy} {M : Memref sig .tc sp sh e} {r : Rect sh} {hl : M.view.LoadsAt r.toLoadRect}
    {q : PosShare TreeShare} {Y : sh.Idx → Elt F e} {k : (r.toLoadRect.shape.Idx → Elt F e) → Prog (TpuEff nD τ sig (Elt F) Λ₀ .tc) α} :
    own c M q Y ⊢ iprop((own c M q Y -∗ WP c (k (fun i => Y (r.emb i))) Q) -∗ WP c (.op (.load M r.toLoadRect hl) k) Q) := by
  unfold own owns
  iintro ⟨%f, %hf, H⟩ Hk
  subst hf
  iapply (wp_load 𝒱₀ (c : Thread nD τ) none Set.univ (f := f) (q := q) (S := M.view.set) ?_) $$ H
  · rw [View.set, View.setOn]; exact Finset.map_subset_map.mpr (Finset.subset_univ _)
  iintro H
  iapply Hk
  iexists f; isplitr; · ipureintro; rfl
  iexact H

theorem emb_zero (inb : ∀ a, (![0, 0] : Fin 2 → Nat) a + S512x2048.size a ≤ S512x2048.size a) (i : S512x2048.Idx) :
    (Rect.unit (s := S512x2048) ![0, 0] S512x2048.size inb).emb i = i := by
  have h : ∀ (off : Fin 2 → Nat) (ho : off = fun _ => 0) (inb : ∀ a, off a + S512x2048.size a ≤ S512x2048.size a),
      (Rect.unit (s := S512x2048) off S512x2048.size inb).emb i = i := by
    rintro _ rfl inb; exact Rect.emb_whole_apply S512x2048 i
  exact h _ hz inb

/-- A load of a whole 512×2048 buffer. -/
theorem wp_ldw {sp : CoreSpace} {e : EltTy} {M : Memref sig .tc sp S512x2048 e} {inb : ∀ a, (![0, 0] : Fin 2 → Nat) a + S512x2048.size a ≤ S512x2048.size a}
    {hl : M.view.LoadsAt (Rect.unit (s := S512x2048) ![0, 0] S512x2048.size inb).toLoadRect}
    {q : PosShare TreeShare} {Y : S512x2048.Idx → Elt F e} {k : (S512x2048.Idx → Elt F e) → Prog (TpuEff nD τ sig (Elt F) Λ₀ .tc) α} :
    own c M q Y ⊢ iprop((own c M q Y -∗ WP c (k Y) Q)
      -∗ WP c (.op (.load M (Rect.unit (s := S512x2048) ![0, 0] S512x2048.size inb).toLoadRect hl) k) Q) := by
  have h : (fun i => Y ((Rect.unit (s := S512x2048) ![0, 0] S512x2048.size inb).emb i)) = Y := funext fun i => congrArg Y (emb_zero inb i)
  have h2 := wp_ld (F := F) c (Q := Q) (M := M) (hl := hl) (q := q) (Y := Y) (k := k)
  rw [h] at h2
  exact h2

/-- A store of a whole 512×2048 buffer. -/
theorem wp_stw {e : EltTy} {sp : CoreSpace} {M : Memref sig .tc sp S512x2048 e} {inb : ∀ a, (![0, 0] : Fin 2 → Nat) a + S512x2048.size a ≤ S512x2048.size a}
    {w : S512x2048.Idx → Elt F e} {hx : (M.access (Rect.unit (s := S512x2048) ![0, 0] S512x2048.size inb)).Stores Finset.univ} {hm}
    {k : PUnit → Prog (TpuEff nD τ sig (Elt F) Λ₀ .tc) α} :
    ownE c M ⊢ iprop((own c M fullShare w -∗ WP c (k ⟨⟩) Q)
      -∗ WP c (.op (.store M (Rect.unit (s := S512x2048) ![0, 0] S512x2048.size inb) w Finset.univ hx hm) k) Q) := by
  unfold ownE own owns
  iintro ⟨%Y, %f, %hf, H⟩ Hk
  iapply (wp_store 𝒱₀ (c : Thread nD τ) none Set.univ (m := M) (r := Rect.unit (s := S512x2048) ![0, 0] S512x2048.size inb) (f := f) (S := M.view.set) ?_) $$ H
  · rw [View.setOn]
    show Finset.map ((Rect.unit (s := S512x2048) ![0, 0] S512x2048.size inb).emb.trans M.view.emb) _ ⊆ Finset.map M.view.emb Finset.univ
    rw [← Finset.map_map]; exact Finset.map_subset_map.mpr (Finset.subset_univ _)
  iintro H
  iapply Hk
  iexists _; isplitr
  rotate_left
  · iexact H
  ipureintro
  funext i
  have h := View.read_write_of_mem (v := (M.access (Rect.unit (s := S512x2048) ![0, 0] S512x2048.size inb))) f w (Finset.mem_univ i)
  refine Eq.trans ?_ h
  exact congrArg (M.view.read (Elt F) _) (emb_zero inb i).symm

/-- A load of a gathered slot through its buffer: the value's rows are the slot's. -/
theorem wp_ldag (d : Bool) (t : Fin 3) {inb} {hl : (agW d).view.LoadsAt (Rect.unit (s := S3x512x2048) ![t.val, 0, 0] S1x512x2048.size inb).toLoadRect}
    {q : PosShare TreeShare} {Y : S512x2048.Idx → Elt F .bf16} {k : (S1x512x2048.Idx → Elt F .bf16) → Prog (TpuEff nD τ sig (Elt F) Λ₀ .tc) α} :
    own c (agM d t) q Y ⊢ iprop((∀ V, ⌜shapeCast S512x2048 V shapeCasts_S1x512x2048_S512x2048 = Y⌝ -∗ own c (agM d t) q Y -∗ WP c (k V) Q)
      -∗ WP c (.op (.load (agW d) (Rect.unit (s := S3x512x2048) ![t.val, 0, 0] S1x512x2048.size inb).toLoadRect hl) k) Q) := by
  unfold own owns
  iintro ⟨%f, %hf, H⟩ Hk
  have hS : (agM d t).view.set = ((agW d).access (agR t)).set := View.set_reshape _ _
  rw [hS]
  iapply (wp_load_rect 𝒱₀ (c : Thread nD τ) none Set.univ (m := agW d) (r := agR t) (f := f) (q := q) (S := ((agW d).access (agR t)).set) (Finset.Subset.refl _)) $$ H
  iintro H
  ispecialize Hk $$ %(((agW d).access (agR t)).read (Elt F) f)
  iapply Hk
  · ipureintro; rw [← hf]; rfl
  · iexists f; isplitr; · ipureintro; exact hf
    iexact H

end Cert.Ring

end
-- ==== Proof.Facts.lean ====
/- What the printed operands are: which semaphore a slice of an array names, which device a number names,
   which rows a slice takes, and when each printed condition holds. -/
module

public import proofs.«01_k».proof.Proof.Steps

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Grid point and step -/

theorem i0_lt (i : grid0.Coords) : (i 0).val < 4 := (i 0).isLt
theorem trips_eq : k0_t1_loop.trips = 3 := by decide
def jj (i : grid0.Coords) : Fin 4 := ⟨(i 0).val, i0_lt i⟩
def ss (k : Fin k0_t1_loop.trips) : Fin 3 := ⟨k.val, trips_eq ▸ k.isLt⟩

theorem cond1_iff : ∀ i : grid0.Coords, Iff (k0_cond1 i = 1#1) ((jj i).val = 0) := by decide +kernel
theorem cond2_iff : ∀ (i : grid0.Coords) (k : Fin k0_t1_loop.trips),
    Iff (Scalar.cmpi .ne (Scalar.extui (Scalar.ori (Scalar.cmpi .sgt (BitVec.ofNat 32 (i 0).val) 0#32)
      (Scalar.cmpi .sgt (Scf.iv 0#32 1#32 k) 0#32)) : BitVec 32) 0#32 = 1#1) (0 < 3 * (jj i).val + (ss k).val) := by decide +kernel
theorem cond3_iff : ∀ (i : grid0.Coords) (k : Fin k0_t1_loop.trips), Iff (k0_cond3 i k = 1#1) (3 * (jj i).val + (ss k).val < NC) := by decide +kernel

/-! ## Semaphores -/

section Sems
variable {off : Fin 2 → Nat} {j : Fin 4} {s : Fin 3}

theorem inb_sem : ∀ (j : Fin 4) (s : Fin 3), ∀ a, (![j.val, s.val] : Fin 2 → Nat) a + S1x1.size a ≤ S4x3.size a := by decide

theorem sem16' : ∀ (j : Fin 4) (s : Fin 3), ((cc0_scratch12.slice (Rect.unit (s := S4x3) ![j.val, s.val] S1x1.size (inb_sem j s))).squeeze S_ squeezes_S1x1_S_).sem
    = xsem false (j, s, false, true) := by decide +kernel
theorem sem16 (h : off = ![j.val, s.val]) (inb : ∀ a, off a + S1x1.size a ≤ S4x3.size a) :
    ((cc0_scratch12.slice (Rect.unit (s := S4x3) off S1x1.size inb)).squeeze S_ squeezes_S1x1_S_).sem = xsem false (j, s, false, true) := by
  subst h; exact sem16' j s
theorem sem17' : ∀ (j : Fin 4) (s : Fin 3), ((cc0_scratch13.slice (Rect.unit (s := S4x3) ![j.val, s.val] S1x1.size (inb_sem j s))).squeeze S_ squeezes_S1x1_S_).sem
    = xsem true (j, s, false, true) := by decide +kernel
theorem sem17 (h : off = ![j.val, s.val]) (inb : ∀ a, off a + S1x1.size a ≤ S4x3.size a) :
    ((cc0_scratch13.slice (Rect.unit (s := S4x3) off S1x1.size inb)).squeeze S_ squeezes_S1x1_S_).sem = xsem true (j, s, false, true) := by
  subst h; exact sem17' j s
theorem sem18' : ∀ (j : Fin 4) (s : Fin 3), ((cc0_scratch14.slice (Rect.unit (s := S4x3) ![j.val, s.val] S1x1.size (inb_sem j s))).squeeze S_ squeezes_S1x1_S_).sem
    = xsem false (j, s, false, false) := by decide +kernel
theorem sem18 (h : off = ![j.val, s.val]) (inb : ∀ a, off a + S1x1.size a ≤ S4x3.size a) :
    ((cc0_scratch14.slice (Rect.unit (s := S4x3) off S1x1.size inb)).squeeze S_ squeezes_S1x1_S_).sem = xsem false (j, s, false, false) := by
  subst h; exact sem18' j s
theorem sem19' : ∀ (j : Fin 4) (s : Fin 3), ((cc0_scratch15.slice (Rect.unit (s := S4x3) ![j.val, s.val] S1x1.size (inb_sem j s))).squeeze S_ squeezes_S1x1_S_).sem
    = xsem true (j, s, false, false) := by decide +kernel
theorem sem19 (h : off = ![j.val, s.val]) (inb : ∀ a, off a + S1x1.size a ≤ S4x3.size a) :
    ((cc0_scratch15.slice (Rect.unit (s := S4x3) off S1x1.size inb)).squeeze S_ squeezes_S1x1_S_).sem = xsem true (j, s, false, false) := by
  subst h; exact sem19' j s
theorem sem20' : ∀ (j : Fin 4) (s : Fin 3), ((cc0_scratch16.slice (Rect.unit (s := S4x3) ![j.val, s.val] S1x1.size (inb_sem j s))).squeeze S_ squeezes_S1x1_S_).sem
    = xsem false (j, s, true, true) := by decide +kernel
theorem sem20 (h : off = ![j.val, s.val]) (inb : ∀ a, off a + S1x1.size a ≤ S4x3.size a) :
    ((cc0_scratch16.slice (Rect.unit (s := S4x3) off S1x1.size inb)).squeeze S_ squeezes_S1x1_S_).sem = xsem false (j, s, true, true) := by
  subst h; exact sem20' j s
theorem sem21' : ∀ (j : Fin 4) (s : Fin 3), ((cc0_scratch17.slice (Rect.unit (s := S4x3) ![j.val, s.val] S1x1.size (inb_sem j s))).squeeze S_ squeezes_S1x1_S_).sem
    = xsem true (j, s, true, true) := by decide +kernel
theorem sem21 (h : off = ![j.val, s.val]) (inb : ∀ a, off a + S1x1.size a ≤ S4x3.size a) :
    ((cc0_scratch17.slice (Rect.unit (s := S4x3) off S1x1.size inb)).squeeze S_ squeezes_S1x1_S_).sem = xsem true (j, s, true, true) := by
  subst h; exact sem21' j s
theorem sem22' : ∀ (j : Fin 4) (s : Fin 3), ((cc0_scratch18.slice (Rect.unit (s := S4x3) ![j.val, s.val] S1x1.size (inb_sem j s))).squeeze S_ squeezes_S1x1_S_).sem
    = xsem false (j, s, true, false) := by decide +kernel
theorem sem22 (h : off = ![j.val, s.val]) (inb : ∀ a, off a + S1x1.size a ≤ S4x3.size a) :
    ((cc0_scratch18.slice (Rect.unit (s := S4x3) off S1x1.size inb)).squeeze S_ squeezes_S1x1_S_).sem = xsem false (j, s, true, false) := by
  subst h; exact sem22' j s
theorem sem23' : ∀ (j : Fin 4) (s : Fin 3), ((cc0_scratch19.slice (Rect.unit (s := S4x3) ![j.val, s.val] S1x1.size (inb_sem j s))).squeeze S_ squeezes_S1x1_S_).sem
    = xsem true (j, s, true, false) := by decide +kernel
theorem sem23 (h : off = ![j.val, s.val]) (inb : ∀ a, off a + S1x1.size a ≤ S4x3.size a) :
    ((cc0_scratch19.slice (Rect.unit (s := S4x3) off S1x1.size inb)).squeeze S_ squeezes_S1x1_S_).sem = xsem true (j, s, true, false) := by
  subst h; exact sem23' j s

end Sems

/-! ## Blocks -/

theorem chunk_true : ∀ (c : Dev nD) (s : Fin 4), (chunk true c s.val).val = (c.val + 3 - s.val) % 4 := by decide
theorem chunk_false : ∀ (c : Dev nD) (s : Fin 4), (chunk false c s.val).val = (c.val + 1 + s.val) % 4 := by decide

/-- What a hop lands is the finished block of the device it started from. -/
theorem agC_eq (m : (ℓ : Loc nD τ sig) → Buf (Elt F) ℓ) (d : Bool) (j : Fin 4) : ∀ (t : ℕ) (c : Dev nD), agC m d j t c = acc m d j 3 (chunk d c t)
  | 0, c => rfl
  | t + 1, c => by
    have h : ∀ t : ℕ, chunk d (pb d c) t = chunk d c (t + 1) := fun t => by
      induction t with
      | zero => rfl
      | succ t ih => exact congrArg (pb d) ih
    rw [← h]; exact agC_eq m d j t (pb d c)

theorem inb_o (a : Dev nD) (j : Fin 4) (d : Bool) : ∀ b, (![2048 * a.val + 512 * j.val, coff d] : Fin 2 → Nat) b + S512x2048.size b ≤ S8192x4096.size b := by
  revert a j d; decide
abbrev oRect (a : Dev nD) (j : Fin 4) (d : Bool) : Rect S8192x4096 :=
  Rect.unit (s := S8192x4096) ![2048 * a.val + 512 * j.val, coff d] S512x2048.size (inb_o a j d)
/-- The tile of the result that block `a`, grid point `j` and direction `d` fill. -/
abbrev oM (a : Dev nD) (j : Fin 4) (d : Bool) : Memref sig .tc .hbm S512x2048 .f32 := oH.slice (oRect a j d) (fun _ => rfl)
/-- And what it is filled with. -/
def outV (m : (ℓ : Loc nD τ sig) → Buf (Elt F) ℓ) (d : Bool) (j : Fin 4) (a : Dev nD) : Vec F S512x2048 .f32 := k0_pay9 (acc m d j 3 a)

theorem x_slice {off : Fin 2 → Nat} {a : Dev nD} {j : Fin 4} (h : off = ![2048 * a.val + 512 * j.val, 0])
    (inb : ∀ b, off b + S512x2048.size b ≤ S8192x2048.size b) (hs) :
    xH.slice (Rect.unit (s := S8192x2048) off S512x2048.size inb) hs = xM a j := by subst h; rfl
theorem o_slice {off : Fin 2 → Nat} {a : Dev nD} {j : Fin 4} {d : Bool} (h : off = ![2048 * a.val + 512 * j.val, coff d])
    (inb : ∀ b, off b + S512x2048.size b ≤ S8192x4096.size b) (hs) :
    oH.slice (Rect.unit (s := S8192x4096) off S512x2048.size inb) hs = oM a j d := by subst h; rfl

theorem off1_eq (i : grid0.Coords) (c : Dev nD) : k0_off1 i c = ![2048 * (chunk true c 0).val + 512 * (jj i).val, 0] := by
  rw [k0_off1_eq]; rfl
theorem off2_eq (i : grid0.Coords) (c : Dev nD) : k0_off2 i c = ![2048 * (chunk false c 0).val + 512 * (jj i).val, 0] := by
  rw [k0_off2_eq]; rfl
theorem off4_eq (i : grid0.Coords) (c : Dev nD) (k : Fin k0_t1_loop.trips) :
    k0_off4 i c k = ![2048 * (chunk true c ((ss k).val + 1)).val + 512 * (jj i).val, 0] := by
  revert i c k; decide +kernel
theorem off5_eq (i : grid0.Coords) (c : Dev nD) (k : Fin k0_t1_loop.trips) :
    k0_off5 i c k = ![2048 * (chunk false c ((ss k).val + 1)).val + 512 * (jj i).val, 0] := by
  revert i c k; decide +kernel
theorem off6_eq (i : grid0.Coords) (c : Dev nD) : k0_off6 i c = ![2048 * c.val + 512 * (jj i).val, coff true] := by
  rw [k0_off6_eq]; rfl
theorem off7_eq (i : grid0.Coords) (c : Dev nD) : k0_off7 i c = ![2048 * c.val + 512 * (jj i).val, coff false] := by
  rw [k0_off7_eq]; rfl
theorem off10_eq (i : grid0.Coords) (c : Dev nD) (t : Fin 3) :
    k0_off10 i c (BitVec.ofNat 32 t.val) = ![2048 * (chunk true c t.val).val + 512 * (jj i).val, coff true] := by
  revert i c t; decide +kernel
theorem off11_eq (i : grid0.Coords) (c : Dev nD) (t : Fin 3) :
    k0_off11 i c (BitVec.ofNat 32 t.val) = ![2048 * (chunk false c t.val).val + 512 * (jj i).val, coff false] := by
  revert i c t; decide +kernel

/-! ## Payloads: one name each -/

theorem pay6_eq (v : Vec F S512x2048 .bf16) (w : Vec F S2048x2048 .bf16) : k0_pay6 v w = k0_pay5 v w := rfl
theorem pay3_eq (v : Vec F S512x2048 .bf16) (w : Vec F S2048x2048 .bf16) : k0_pay3 v w = k0_pay2 v w := rfl
theorem pay8_eq (v : Vec F S512x2048 .f32) (w : Vec F S512x2048 .bf16) : k0_pay8 v w = k0_pay7 (k0_pay4 v w) := rfl
theorem pay10_eq (v : Vec F S512x2048 .bf16) : k0_pay10 v = k0_pay9 v := rfl
theorem pay11_eq (V : Vec F S1x512x2048 .bf16) : k0_pay11 V = k0_pay9 (shapeCast S512x2048 V shapeCasts_S1x512x2048_S512x2048) := rfl

end Cert.Ring

end
-- ==== Proof.Trip.lean ====
/- One step of the ring: what a device holds before and after it, and the run of the loop's trip between the two. -/
module

public import proofs.«01_k».proof.Proof.Facts

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

/-! ## What a step is given, and what a device holds between steps -/

/-- The rights of one transfer: where its two cells stand, the two duty tokens, and the credit to wait for what lands here. -/
def kitX (c : Dev nD) (x : X) : sProp 𝕄 :=
  iprop(atPos ER (xCell false x c) 0 ∅ 0 ∗ atPos ER (xCell true x c) 0 ∅ 0 ∗ dutyTok ER (xCell false x c) 0 true
    ∗ dutyTok ER (xCell true x (nb x.2.2.2 c)) 0 true ∗ cred (tallyAt (xCell true x c) (iX x) N))
/-- The two cells of a transfer, closed. -/
def doneX (c : Dev nD) (x : X) : sProp 𝕄 := iprop(semVal (xCell false x c) 0 ∗ semVal (xCell true x c) 0)
/-- The rights of step `n`'s credit: the token to signal it, and the credit to wait for the round before. -/
def kitC (c : Dev nD) (n : ℕ) (d : Bool) : sProp 𝕄 :=
  iprop((if n < NC then dutyTok ER (crCell d (pb d c)) n true else iprop(emp))
    ∗ (if 0 < n then cred (tallyAt (crCell d c) (iC (n - 1)) 1) else iprop(emp)))
def stepKit (c : Dev nD) (j : Fin 4) (s : Fin 3) : sProp 𝕄 :=
  iprop(kitX c (j, s, false, true) ∗ kitX c (j, s, false, false) ∗ kitC c (3 * j.val + s.val) true ∗ kitC c (3 * j.val + s.val) false)
def stepDone (c : Dev nD) (j : Fin 4) (s : Fin 3) : sProp 𝕄 := iprop(doneX c (j, s, false, true) ∗ doneX c (j, s, false, false))

/-- A direction's credits before step `s` of grid point `j`: where the cell stands, and which of the landing buffers and
    slots — the neighbour's and its own — the device holds. -/
def crSt (c : Dev nD) (j s : ℕ) (d : Bool) : sProp 𝕄 :=
  iprop(atPos ER (crCell d c) (3 * j + s - 1) ∅ 0 ∗ (if 3 * j + s = 0 then ownE (nb d c) (recvM d) else iprop(emp))
    ∗ agIf (j = 0 ∨ 2 ≤ s) (nb d c) d ∗ agIf (0 < j ∧ s = 0) c d ∗ (if 3 * j + s = 12 then ownE c (recvM d) else iprop(emp)))
/-- After the wait for the credit: the neighbour's landing buffer is there. -/
def crMid (c : Dev nD) (j s : ℕ) (d : Bool) : sProp 𝕄 :=
  iprop(atPos ER (crCell d c) (3 * j + s) ∅ 0 ∗ reached ER (crCell d c) (3 * j + s) ∗ ownE (nb d c) (recvM d)
    ∗ agIf (j = 0 ∨ 1 ≤ s) (nb d c) d ∗ agIf (0 < j ∧ s = 0) c d)

/-- What stays in place between any two steps: the weights, the left operand, the stages, the copy semaphore. -/
def still (c : Dev nD) : sProp 𝕄 :=
  iprop(ownE c (tmpM true) ∗ ownE c (tmpM false) ∗ ownE c xV ∗ own c wV fullShare (m ((c : Thread nD τ).loc main_arg1))
    ∗ own c xH fullShare (m ((c : Thread nD τ).loc main_arg0)) ∗ semVal ((c : Thread nD τ), .dma (locS true)) 0)
/-- Before step `s` of grid point `j`. -/
def stepSt (c : Dev nD) (j : Fin 4) (s : ℕ) : sProp 𝕄 :=
  iprop(own c (sendM true) fullShare (acc m true j s c) ∗ own c (sendM false) fullShare (acc m false j s c) ∗ still m c
    ∗ crSt c j.val s true ∗ crSt c j.val s false)

variable (K : Dev nD × CK → ℕ) (c : Dev nD) {α : Type} {Q : α → sProp (MT nD τ sig ℕ (Elt F) ℕ UU ℕ)}

/-! ## Composite rules -/

/-- A load whose value is not used, of a buffer of any contents. -/
theorem wp_ldE {e : EltTy} {sp : CoreSpace} {M : Memref sig .tc sp S512x2048 e} {inb : ∀ a, (![0, 0] : Fin 2 → Nat) a + S512x2048.size a ≤ S512x2048.size a}
    {hl : M.view.LoadsAt (Rect.unit (s := S512x2048) ![0, 0] S512x2048.size inb).toLoadRect}
    {k : (S512x2048.Idx → Elt F e) → Prog (TpuEff nD τ sig (Elt F) Λ₀ .tc) α} :
    ownE c M ⊢ iprop((∀ V, ownE c M -∗ WP c (k V) Q)
      -∗ WP c (.op (.load M (Rect.unit (s := S512x2048) ![0, 0] S512x2048.size inb).toLoadRect hl) k) Q) := by
  unfold ownE
  iintro ⟨%Y, H⟩ Hk
  iapply (wp_ldw c) $$ H
  iintro H
  ispecialize Hk $$ %Y
  iapply Hk
  iexists Y; iexact H

/-- A slice of a memref, lent out and given back unchanged. -/
theorem own_borrow {sp : Space} {sh : Shape} {e : EltTy} (M : Memref sig .tc sp sh e) (r : Rect sh) (hr : ∀ a, r.stride a = 1) (q : PosShare TreeShare)
    (X : sh.Idx → Elt F e) :
    own c M q X ⊢ iprop(own c (M.slice r hr) q (fun i => X (r.emb i)) ∗ (own c (M.slice r hr) q (fun i => X (r.emb i)) -∗ own c M q X)) := by
  iintro H
  ihave ⟨Hs, %f, %hf, Hr⟩ := (owns_slice_split (c : Thread nD τ) M q r hr X) $$ H
  isplitl [Hs]; · iexact Hs
  iintro Hs
  ihave H := (owns_slice_join (c : Thread nD τ) M q r hr (fun i => X (r.emb i)) f) $$ [Hs Hr]
  · isplitl [Hs]; · iexact Hs
    iexact Hr
  have h : r.overlay (M.view.read (Elt F) f) (fun i => X (r.emb i)) = X := by
    rw [hf]; funext y
    by_cases hy : y ∈ r.set
    · rw [← Rect.map_emb_univ] at hy
      obtain ⟨i, -, rfl⟩ := Finset.mem_map.mp hy
      exact Rect.overlay_emb r X _ i
    · exact Rect.overlay_of_not_mem r X _ hy
  rw [h]
  iexact H

/-- The copy of a band of the left operand into its buffer, enqueued and awaited. -/
theorem wp_xload {a : Dev nD} {j : Fin 4} {off : Fin 2 → Nat} {inb hs} (h : off = ![2048 * a.val + 512 * j.val, 0])
    {hsrc : (xH.slice (Rect.unit (s := S8192x2048) off S512x2048.size inb) hs).view.WordExact} {hdst : xV.view.WordExact} {hsem}
    {hsrc' : (xH.slice (Rect.unit (s := S8192x2048) off S512x2048.size inb) hs).view.WordExact} {hdst' : xV.view.WordExact}
    {k : PUnit → Prog (TpuEff nD τ sig (Elt F) Λ₀ .tc) α} {l : List (Pay nD τ sig)} (hl : LB 1 l) :
    iprop(ctx m K ∗ own c xH fullShare (m ((c : Thread nD τ).loc main_arg0)) ∗ ownE c xV ∗ semVal ((c : Thread nD τ), .dma (locS true)) 0 ∗ owe c l)
      ⊢ iprop(((own c xH fullShare (m ((c : Thread nD τ).loc main_arg0)) ∗ own c xV fullShare (xband m c a j)
            ∗ semVal ((c : Thread nD τ), .dma (locS true)) 0 ∗ owe c l) -∗ WP c (k ⟨⟩) Q)
          -∗ WP c (.op (.enqueueDma (xH.slice (Rect.unit (s := S8192x2048) off S512x2048.size inb) hs) (.here xV) (.dma cc0_scratch10.sem) hsrc hdst hsem) fun _ =>
              .op (.waitDma2 cc0_scratch10.sem (xH.slice (Rect.unit (s := S8192x2048) off S512x2048.size inb) hs) xV hsrc' hdst') k) Q) := by
  subst h
  iintro ⟨#Hctx, Hx, Hv, Hs, HO⟩ Hk
  ihave ⟨Hb, Hback⟩ := (own_borrow c xH (xRect a j) (fun _ => rfl) fullShare (m ((c : Thread nD τ).loc main_arg0))) $$ Hx
  iapplyF (wp_lstart c true (s := cc0_scratch10.sem) rfl N N_xV N_pos (src := xM a j) (dst := xV))
  iintro Hf
  iapplyF (wp_lwait m K c true (s := cc0_scratch10.sem) rfl N N_xV hl)
  iintro ⟨⟨Hv, Hb⟩, Hs, HO⟩
  iapply Hk
  isplitl [Hback Hb]; · iapply Hback $$ Hb
  isplitl [Hv]; · iexact Hv
  isplitl [Hs]; · iexact Hs
  iexact HO

/-- A load of a direction's half of the weights. -/
theorem wp_ldhalf (d : Bool) {off : Fin 2 → Nat} (h : off = ![0, coff d]) {inb : ∀ a, off a + S2048x2048.size a ≤ S2048x4096.size a}
    {hl : wV.view.LoadsAt (Rect.unit (s := S2048x4096) off S2048x2048.size inb).toLoadRect}
    {k : (S2048x2048.Idx → Elt F .bf16) → Prog (TpuEff nD τ sig (Elt F) Λ₀ .tc) α} :
    own c wV fullShare (m ((c : Thread nD τ).loc main_arg1)) ⊢ iprop((own c wV fullShare (m ((c : Thread nD τ).loc main_arg1)) -∗ WP c (k (whalf m d c)) Q)
      -∗ WP c (.op (.load wV (Rect.unit (s := S2048x4096) off S2048x2048.size inb).toLoadRect hl) k) Q) := by
  subst h
  exact wp_ld c (r := wRect d)

theorem own_E {sp : Space} {sh : Shape} {e : EltTy} (M : Memref sig .tc sp sh e) (Y : sh.Idx → Elt F e) : own c M fullShare Y ⊢ ownE c M := by
  unfold ownE; iintro H; iexists Y; iexact H

theorem wp_ret' (a : α) : Q a ⊢ WP c (.ret a) Q := by
  unfold WP; rw [wp_ret]; iintro H; imodintro; iexact H

theorem agIf_merge {p q r : Prop} [Decidable p] [Decidable q] [Decidable r] (h : r → p ∨ q) (c' : Dev nD) (d : Bool) :
    iprop(agIf (F := F) p c' d ∗ agIf q c' d) ⊢ agIf r c' d := by
  unfold agIf
  by_cases hr : r
  · rw [if_pos hr]
    rcases h hr with hp | hq
    · rw [if_pos hp]; iintro ⟨H, -⟩; iexact H
    · rw [if_pos hq]; iintro ⟨-, H⟩; iexact H
  · rw [if_neg hr]; iintro -; iempintro
theorem agIf_mono {p r : Prop} [Decidable p] [Decidable r] (h : r → p) (c' : Dev nD) (d : Bool) : agIf (F := F) p c' d ⊢ agIf r c' d := by
  iintro H
  iapply (agIf_merge (p := p) (q := False) (fun hr => .inl (h hr)) c' d)
  isplitl [H]; · iexact H
  unfold agIf; rw [if_neg (fun h => h)]; iempintro
theorem agIf_neg {r : Prop} [Decidable r] (h : ¬ r) (c' : Dev nD) (d : Bool) : iprop(emp) ⊢ agIf (F := F) r c' d := by
  unfold agIf; rw [if_neg h]

/-- Before the first step of all nothing is awaited. -/
theorem crMid_first (d : Bool) : iprop(ctx m K ∗ crSt c 0 0 d) ⊢ crMid c 0 0 d := by
  unfold crSt crMid
  rw [if_pos (show 3 * 0 + 0 = 0 from rfl)]
  iintro ⟨#Hctx, Hat, Hr, Hn, Ho, -⟩
  ihave ⟨-, Hr0⟩ := (ctx_cr m K d c) $$ Hctx
  isplitl [Hat]; · iexact Hat
  isplitl [Hr0]; · iexact Hr0
  isplitl [Hr]; · iexact Hr
  isplitl [Hn]; · iapply (agIf_mono (fun _ => .inl rfl) _ _) $$ Hn
  iexact Ho

/-- Later, what the credit hands over completes the state. -/
theorem crMid_later {j s n : ℕ} (hn : 3 * j + s = n + 1) (hs : s < 3) (d : Bool) :
    iprop(crPay d n c ∗ reached ER (crCell d c) (n + 1) ∗ atPos ER (crCell d c) (n + 1) ∅ 0
        ∗ agIf (j = 0 ∨ 2 ≤ s) (nb d c) d ∗ agIf (0 < j ∧ s = 0) c d) ⊢ crMid (F := F) c j s d := by
  unfold crMid crPay
  rw [hn]
  iintro ⟨⟨Hr, Hp⟩, Hre, Hat, Hn, Ho⟩
  isplitl [Hat]; · iexact Hat
  isplitl [Hre]; · iexact Hre
  isplitl [Hr]; · iexact Hr
  isplitl [Hn Hp]
  · iapply (agIf_merge (p := j = 0 ∨ 2 ≤ s) (q := n % 3 = 0 ∧ 0 < n) (fun _ => by omega) (nb d c) d)
    isplitl [Hn]; · iexact Hn
    iexact Hp
  iexact Ho

/-- The two waits for the credits, except at the first step of all. -/
theorem wp_creditwait {j s : ℕ} (hs : s < 3) (hn : 3 * j + s ≤ NC) {p : Prop} [Decidable p] (hp : Iff p (0 < 3 * j + s)) {s1 s2 : Sem sig}
    (h1 : s1 = crS true) (h2 : s2 = crS false) {l : List (Pay nD τ sig)} (hl : 0 < 3 * j + s → LB (iC (3 * j + s - 1) + 1) l)
    {T : Prog (TpuEff nD τ sig (Elt F) Λ₀ .tc) α} :
    iprop(ctx m K ∗ crSt c j s true ∗ crSt c j s false ∗ (if 0 < 3 * j + s then cred (tallyAt (crCell true c) (iC (3 * j + s - 1)) 1) else iprop(emp))
        ∗ (if 0 < 3 * j + s then cred (tallyAt (crCell false c) (iC (3 * j + s - 1)) 1) else iprop(emp)) ∗ owe c l)
      ⊢ iprop(((crMid c j s true ∗ crMid c j s false ∗ owe c l) -∗ WP c T Q)
          -∗ WP c (if h : p then .op (.semWait s1 1) fun _ => .op (.semWait s2 1) fun _ => T else T) Q) := by
  by_cases h0 : 0 < 3 * j + s
  · replace hl := hl h0
    rw [dif_pos (hp.mpr h0), if_pos h0, if_pos h0]
    obtain ⟨n, hn'⟩ : ∃ n, 3 * j + s = n + 1 := ⟨3 * j + s - 1, by omega⟩
    have hnc : n < NC := by omega
    have e : 3 * j + s - 1 = n := by omega
    rw [e] at hl ⊢
    unfold crSt
    rw [e]
    iintro ⟨#Hctx, ⟨Ha1, -, Hn1, Ho1, -⟩, ⟨Ha2, -, Hn2, Ho2, -⟩, Hc1, Hc2, HO⟩ Hk
    iapplyF (wp_crwait m K c true n hnc h1 hl)
    iintro ⟨Hp1, Hr1, Ha1, HO⟩
    iapplyF (wp_crwait m K c false n hnc h2 hl)
    iintro ⟨Hp2, Hr2, Ha2, HO⟩
    iapply Hk
    isplitl [Hp1 Hr1 Ha1 Hn1 Ho1]
    · iapplyF (crMid_later c hn' hs true)
    isplitl [Hp2 Hr2 Ha2 Hn2 Ho2]
    · iapplyF (crMid_later c hn' hs false)
    iexact HO
  · rw [dif_neg (fun h => h0 (hp.mp h))]
    obtain ⟨rfl, rfl⟩ : j = 0 ∧ s = 0 := by omega
    iintro ⟨#Hctx, H1, H2, -, -, HO⟩ Hk
    iapply Hk
    isplitl [H1]
    · iapplyF (crMid_first m K c true)
    isplitl [H2]
    · iapplyF (crMid_first m K c false)
    iexact HO

/-- What a direction holds when a step's arithmetic is over. -/
def crEnd (c : Dev nD) (j s : ℕ) (d : Bool) : sProp 𝕄 :=
  iprop(atPos ER (crCell d c) (3 * j + s) ∅ 0 ∗ ownE c (recvM d) ∗ agIf (j = 0 ∨ 1 ≤ s) (nb d c) d ∗ agIf (0 < j ∧ s = 0) c d
    ∗ reached ER (crCell d (pb d c)) (3 * j + s) ∗ (if 3 * j + s < NC then dutyTok ER (crCell d (pb d c)) (3 * j + s) true else iprop(emp)))

/-- The state before the next step, the credit signalled. -/
theorem crSt_next {j s : ℕ} (hn : 3 * j + s < NC) (d : Bool) :
    iprop(atPos ER (crCell d c) (3 * j + s) ∅ 0 ∗ agIf (j = 0 ∨ 1 ≤ s) (nb d c) d) ⊢ crSt (F := F) c j (s + 1) d := by
  have e : 3 * j + (s + 1) - 1 = 3 * j + s := by omega
  unfold NC at hn
  unfold crSt
  rw [e, if_neg (by omega), if_neg (by omega)]
  iintro ⟨Ha, Hn⟩
  isplitl [Ha]; · iexact Ha
  isplitr; · iempintro
  isplitl [Hn]; · iapply (agIf_mono (fun h => by omega) _ _) $$ Hn
  isplitl []
  · iapply (agIf_neg (fun h => by omega) c d); iempintro
  iempintro

/-- The last step signals none and keeps its landing buffer. -/
theorem crSt_last {j s : ℕ} (hn : 3 * j + s = NC) (d : Bool) : crEnd (F := F) c j s d ⊢ crSt c j (s + 1) d := by
  have e : 3 * j + (s + 1) - 1 = 3 * j + s := by omega
  unfold NC at hn
  unfold crSt crEnd
  rw [e, if_neg (c := 3 * j + (s + 1) = 0) (by omega), if_pos (c := 3 * j + (s + 1) = 12) (by omega)]
  iintro ⟨Ha, Hr, Hn, -⟩
  isplitl [Ha]; · iexact Ha
  isplitr; · iempintro
  isplitl [Hn]; · iapply (agIf_mono (fun h => by omega) _ _) $$ Hn
  isplitl []
  · iapply (agIf_neg (fun h => by omega) c d); iempintro
  iexact Hr

/-- The two credits, except at the last step of all. -/
theorem wp_creditsignal {j s : ℕ} (hs : s < 3) (hn : 3 * j + s ≤ NC) {p : Prop} [Decidable p] (hp : Iff p (3 * j + s < NC)) {s1 s2 : Sem sig}
    (h1 : s1 = crS true) (h2 : s2 = crS false) {v1 v2 : p → Dev nD} (hv1 : ∀ h, v1 h = pb true c) (hv2 : ∀ h, v2 h = pb false c)
    {l : List (Pay nD τ sig)} {T : Prog (TpuEff nD τ sig (Elt F) Λ₀ .tc) α} :
    iprop(ctx m K ∗ crEnd c j s true ∗ crEnd c j s false ∗ owe c (dCR c (3 * j + s) ++ l))
      ⊢ iprop(((crSt c j (s + 1) true ∗ crSt c j (s + 1) false ∗ owe c l) -∗ WP c T Q)
          -∗ WP c (if h : p then .op (.semSignal (Dev.tc (v1 h) : Thread nD τ) s1 1) fun _ => .op (.semSignal (Dev.tc (v2 h) : Thread nD τ) s2 1) fun _ => T else T) Q) := by
  by_cases h0 : 3 * j + s < NC
  · have hag : ∀ d, agIf (F := F) (0 < j ∧ s = 0) c d ⊢ agIf ((3 * j + s) % 3 = 0 ∧ 0 < 3 * j + s) c d := fun d =>
      agIf_mono (fun h => by omega) c d
    rw [dif_pos (hp.mpr h0)]
    unfold crEnd dCR
    rw [if_pos h0, if_pos h0, if_pos h0]
    iintro ⟨#Hctx, ⟨Ha1, Hv1, Hn1, Ho1, Hr1, Ht1⟩, ⟨Ha2, Hv2, Hn2, Ho2, Hr2, Ht2⟩, HO⟩ Hk
    ihave Ho1 := (hag true) $$ Ho1
    ihave Ho2 := (hag false) $$ Ho2
    ihave HO := (show owe c ([payC c (3 * j + s) true, payC c (3 * j + s) false] ++ l)
      ⊢ owe c (payC c (3 * j + s) true :: payC c (3 * j + s) false :: l) from .rfl) $$ HO
    iapplyF (wp_crsignal m K c true (3 * j + s) h0 h1 (hv1 (hp.mpr h0)))
    iintro HO
    iapplyF (wp_crsignal m K c false (3 * j + s) h0 h2 (hv2 (hp.mpr h0)))
    iintro HO
    iapply Hk
    isplitl [Ha1 Hn1]
    · iapplyF (crSt_next c h0 true)
    isplitl [Ha2 Hn2]
    · iapplyF (crSt_next c h0 false)
    iexact HO
  · rw [dif_neg (fun h => h0 (hp.mp h))]
    have hd : dCR c (3 * j + s) = [] := by unfold dCR; rw [if_neg h0]
    rw [hd, List.nil_append]
    iintro ⟨#Hctx, H1, H2, HO⟩ Hk
    iapply Hk
    isplitl [H1]
    · iapply (crSt_last c (by omega) true) $$ H1
    isplitl [H2]
    · iapply (crSt_last c (by omega) false) $$ H2
    iexact HO

/-! ## One trip -/

theorem iX_rs (j : Fin 4) (s : Fin 3) (d : Bool) : iX (j, s, false, d) = 2 + 18 * j.val + 4 * s.val := rfl
theorem iC_rs (j : Fin 4) (s : Fin 3) : iC (3 * j.val + s.val) = 4 + 18 * j.val + 4 * s.val := by
  have := s.isLt
  unfold iC; rw [show (3 * j.val + s.val) / 3 = j.val by omega, show (3 * j.val + s.val) % 3 = s.val by omega]
theorem iC_pred (j : Fin 4) (s : Fin 3) (h : 0 < 3 * j.val + s.val) : iC (3 * j.val + s.val - 1) + 1 ≤ 2 + 18 * j.val + 4 * s.val := by
  have := s.isLt; unfold iC; omega
theorem iX_lt (x : X) : iX x < NL := by
  obtain ⟨j, s, ph, d⟩ := x
  have := j.isLt; have := s.isLt
  cases ph <;> (unfold iX NL; simp only [if_true, if_false, Bool.false_eq_true]; omega)

theorem xPay_rs_snd (j : Fin 4) (s : Fin 3) (d : Bool) : xPay m false (j, s, false, d) c = own c (sendM d) fullShare (acc m d j s.val c) := rfl
theorem xPay_rs_rcv (j : Fin 4) (s : Fin 3) (d : Bool) : xPay m true (j, s, false, d) c
    = iprop(own c (recvM d) fullShare (acc m d j s.val (pb d c)) ∗ reached ER (crCell d (pb d c)) (3 * j.val + s.val)) := rfl

/-- What is still owed after a step lies above it. -/
theorem LB_after (j : Fin 4) (s : Fin 3) :
    LB (2 + 18 * j.val + 4 * (s.val + 1)) (dSt c j (s.val + 1) ++ (dHop c j 0 ++ dFrom c (j.val + 1))) := by
  have := s.isLt
  exact .append (LB_st c j _) (.append ((LB_hop c j 0).mono (by omega)) ((LB_from c _).mono (by omega)))

theorem toInt_one : BitVec.toInt 1#32 = 1 := by decide
theorem toInt_two : BitVec.toInt 2#32 = 2 := by decide

/-- The loop's trip on the kernel's own buffers. -/
abbrev tripP (i : grid0.Coords) (v2 v4 v7 v27 w : BitVec 32) : Fin k0_t1_loop.trips → Unit → Prog (TpuEff nD τ sig (Elt F) Λ₀ .tc) Unit :=
  k0_t1_body i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 (BitVec.ofNat 32 (i 0).val) c v2 v4 v7 v27 w

set_option maxHeartbeats 4000000 in
theorem trip (i : grid0.Coords) (k : Fin k0_t1_loop.trips) (u : Unit) (v2 v4 v7 v27 w : BitVec 32) :
    iprop(ctx m K ∗ stepSt m c (jj i) (ss k).val ∗ stepKit c (jj i) (ss k) ∗ owe c (dSt c (jj i) (ss k).val ++ (dHop c (jj i) 0 ++ dFrom c ((jj i).val + 1))))
      ⊢ WP c (tripP c i v2 v4 v7 v27 w k u) fun _ => iprop(stepSt m c (jj i) ((ss k).val + 1) ∗ stepDone c (jj i) (ss k)
          ∗ owe c (dSt c (jj i) ((ss k).val + 1) ++ (dHop c (jj i) 0 ++ dFrom c ((jj i).val + 1)))) := by
  have hlb := LB_after c (jj i) (ss k)
  rw [dSt_step c (jj i) (ss k), List.append_assoc]
  generalize dSt c (jj i) ((ss k).val + 1) ++ (dHop c (jj i) 0 ++ dFrom c ((jj i).val + 1)) = l at hlb ⊢
  have hs := (ss k).isLt
  have hj := (jj i).isLt
  have hn : 3 * (jj i).val + (ss k).val ≤ NC := by unfold NC; omega
  have hl0 : LB (2 + 18 * (jj i).val + 4 * (ss k).val) (dRS c (jj i) (ss k) ++ l) := .append (LB_rs c _ _) (hlb.mono (by omega))
  have hl1 : LB (2 + 18 * (jj i).val + 4 * (ss k).val + 1) (dCR c (3 * (jj i).val + (ss k).val) ++ l) :=
    .append (LB_cr c _ _ (by rw [iC_rs]; omega)) (hlb.mono (by omega))
  have hlc : 0 < 3 * (jj i).val + (ss k).val → LB (iC (3 * (jj i).val + (ss k).val - 1) + 1) (dRS c (jj i) (ss k) ++ l) := fun h0 =>
    hl0.mono (iC_pred _ _ h0)
  unfold stepSt stepKit stepDone still kitX kitC
  unfold tripP k0_t1_body
  simp only [k0_part1_eq_skeleton, k0_part2_eq_skeleton]
  unfold k0_part1_skel k0_part2_skel
  simp only [Prog.lift, Prog.bind_op, Prog.bind_ret, Prog.bind_assoc, Prog.pure_eq_ret, semWaitWord, semSignalWord, toInt_one]
  unfold WP
  rw [wp_bind]
  iintro ⟨#Hctx, ⟨Hsr, Hsl, ⟨Htr, Htl, Hxv, Hwv, Hxh, Hls⟩, Hcr, Hcl⟩, ⟨⟨Har1, Har2, Htr1, Htr2, Hcr2⟩, ⟨Hal1, Hal2, Htl1, Htl2, Hcl2⟩, ⟨Hctr, Hccr⟩, ⟨Hctl, Hccl⟩⟩, HO⟩
  iapplyF (wp_creditwait m K c hs hn (cond2_iff i k) (s1 := cc0_scratch20.sem) (s2 := cc0_scratch21.sem) rfl rfl hlc)
  unfold crMid
  iintro ⟨⟨Hatr, #Hrr, Hnr, Hagr, Hor⟩, ⟨Hatl, #Hrl, Hnl, Hagl, Hol⟩, HO⟩
  ihave HO := (show owe c (dRS c (jj i) (ss k) ++ l) ⊢ owe c (payX c (jj i, ss k, false, true) :: payX c (jj i, ss k, false, false) :: (dCR c (3 * (jj i).val + (ss k).val) ++ l)) from .rfl) $$ HO
  iapplyF (wp_xsend m K c (jj i, ss k, false, true) (Fin.ext (k0_dev3_eq c)) (sem16 (k0_off3_eq i k) _) (sem17 (k0_off3_eq i k) _) (N_recv true)
    (Y := acc m true (jj i) (ss k).val c) (R := reached ER (crCell true c) (3 * (jj i).val + (ss k).val)) .rfl ?_)
  · unfold rcvPay; dsimp only; rw [pb_nb]
  iintro ⟨Hfr, HO⟩
  iapplyF (wp_xsend m K c (jj i, ss k, false, false) (Fin.ext (k0_dev4_eq c)) (sem18 (k0_off3_eq i k) _) (sem19 (k0_off3_eq i k) _) (N_recv false)
    (Y := acc m false (jj i) (ss k).val c) (R := reached ER (crCell false c) (3 * (jj i).val + (ss k).val)) .rfl ?_)
  · unfold rcvPay; dsimp only; rw [pb_nb]
  iintro ⟨Hfl, HO⟩
  iapplyF (wp_xload m K c (off4_eq i c k) (hl1.mono (by omega)))
  iintro ⟨Hxh, Hxv, Hls, HO⟩
  iapplyF (wp_ldw c)
  iintro Hxv
  iapplyF (wp_ldhalf m c true rfl)
  iintro Hwv
  iapplyF (wp_ldE c (M := tmpM true))
  iintro %V Htr
  iapplyF (wp_stw c (M := tmpM true))
  iintro Htr
  iapply (wp_ret' c)
  ihave Hxv := (own_E c _ _) $$ Hxv
  iapplyF (wp_xload m K c (off5_eq i c k) (hl1.mono (by omega)))
  iintro ⟨Hxh, Hxv, Hls, HO⟩
  iapplyF (wp_ldw c)
  iintro Hxv
  iapplyF (wp_ldhalf m c false rfl)
  iintro Hwv
  iapplyF (wp_ldE c (M := tmpM false))
  iintro %V' Htl
  iapplyF (wp_stw c (M := tmpM false))
  iintro Htl
  iapplyF (wp_xwait m K c false (jj i, ss k, false, true) (sem16 (k0_off3_eq i k) _) (N_send true) 0 (by decide) (hl1.mono (by omega)))
  iintro ⟨Hsr, Hzr1, HO⟩
  iapplyF (wp_xwait m K c true (jj i, ss k, false, true) (sem17 (k0_off3_eq i k) _) (N_recv true) (iX (jj i, ss k, false, true)) (iX_lt _) hl1)
  iintro ⟨Hrr, Hzr2, HO⟩
  iapplyF (wp_xwait m K c false (jj i, ss k, false, false) (sem18 (k0_off3_eq i k) _) (N_send false) 0 (by decide) (hl1.mono (by omega)))
  iintro ⟨Hsl, Hzl1, HO⟩
  iapplyF (wp_xwait m K c true (jj i, ss k, false, false) (sem19 (k0_off3_eq i k) _) (N_recv false) (iX (jj i, ss k, false, false)) (iX_lt _) hl1)
  iintro ⟨Hrl, Hzl2, HO⟩
  ihave Hsr := (Entails.of_eq (xPay_rs_snd m c (jj i) (ss k) true)) $$ Hsr
  ihave Hsl := (Entails.of_eq (xPay_rs_snd m c (jj i) (ss k) false)) $$ Hsl
  ihave ⟨Hrr, Hfr⟩ := (Entails.of_eq (xPay_rs_rcv m c (jj i) (ss k) true)) $$ Hrr
  ihave ⟨Hrl, Hfl⟩ := (Entails.of_eq (xPay_rs_rcv m c (jj i) (ss k) false)) $$ Hrl
  iapplyF (wp_ldw c (M := tmpM true))
  iintro Htr
  iapplyF (wp_ldw c (M := recvM true))
  iintro Hrr
  iapplyF (wp_ldw c (M := sendM true))
  iintro Hsr
  ihave Hsr := (own_E c _ _) $$ Hsr
  iapplyF (wp_stw c (M := sendM true))
  iintro Hsr
  iapplyF (wp_ldw c (M := tmpM false))
  iintro Htl
  iapplyF (wp_ldw c (M := recvM false))
  iintro Hrl
  iapplyF (wp_ldw c (M := sendM false))
  iintro Hsl
  ihave Hsl := (own_E c _ _) $$ Hsl
  iapplyF (wp_stw c (M := sendM false))
  iintro Hsl
  ihave Hrr := (own_E c _ _) $$ Hrr
  ihave Hrl := (own_E c _ _) $$ Hrl
  ihave Htr := (own_E c _ _) $$ Htr
  ihave Htl := (own_E c _ _) $$ Htl
  ihave Hxv := (own_E c _ _) $$ Hxv
  iapply (wp_creditsignal m K c hs hn (cond3_iff i k) (s1 := cc0_scratch20.sem) (s2 := cc0_scratch21.sem) rfl rfl
    (fun h => Fin.ext (k0_dev5_eq c)) (fun h => Fin.ext (k0_dev6_eq c)) (l := l)) $$ [Hatr Hrr Hagr Hor Hfr Hctr Hatl Hrl Hagl Hol Hfl Hctl HO]
  · unfold crEnd
    iclose
  iintro ⟨Hcr, Hcl, HO⟩
  iapply (wp_ret' c)
  unfold doneX
  iclose

end Cert.Ring

end
-- ==== Proof.Hops.lean ====
/- The hops that gather the finished blocks, and the copies of finished blocks into the result. -/
module

public import proofs.«01_k».proof.Proof.Trip

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD) {α : Type} {Q : α → sProp (MT nD τ sig ℕ (Elt F) ℕ UU ℕ)}

/-! ## Hops -/

/-- A hop on its way: its two cells, and the credits to wait for both ends. -/
def sentX (c : Dev nD) (x : X) : sProp 𝕄 :=
  iprop(atPos ER (xCell false x c) 0 ∅ 0 ∗ atPos ER (xCell true x c) 0 ∅ 0 ∗ cred (tallyAt (xCell false x c) 0 N) ∗ cred (tallyAt (xCell true x c) (iX x) N))

theorem wp_hop (j : Fin 4) (t : Fin 3) (d : Bool) {sp : Space} {n : Dev nD} (hn : n = nb d c)
    {src : Memref sig .tc sp S512x2048 .bf16} {qS qR : DmaSem sig} (hS : qS = xsem false (j, t, true, d)) (hR : qR = xsem true (j, t, true, d))
    {hsc : (show Memref sig (Dev.tc n : Thread nD τ).2.kind .vmem S512x2048 .bf16 from agM d t).view.ref.isScScratch = false}
    {hsrc : src.view.WordExact} {hdst : (agM d t).view.WordExact}
    {hsem : DmaTarget.Typed sp (.dma qR) (.remote (Dev.tc n : Thread nD τ) (show Memref sig (Dev.tc n : Thread nD τ).2.kind .vmem S512x2048 .bf16 from agM d t) (.dma qS) hsc)}
    {k : PUnit → Prog (TpuEff nD τ sig (Elt F) Λ₀ .tc) α} {q : PosShare TreeShare} {Y : S512x2048.Idx → Elt F .bf16} {l : List (Pay nD τ sig)}
    (h1 : own c src q Y ⊢ sndPay m (j, t, true, d) c) (h2 : own (nb d c) (agM d t) fullShare Y ⊢ rcvPay m (j, t, true, d) (nb d c)) :
    iprop(ctx m K ∗ own c src q Y ∗ ownE (nb d c) (agM d t) ∗ kitX c (j, t, true, d) ∗ owe c (payX c (j, t, true, d) :: l))
      ⊢ iprop(((sentX c (j, t, true, d) ∗ owe c l) -∗ WP c (k ⟨⟩) Q)
          -∗ WP c (.op (.enqueueDma src (.remote (Dev.tc n : Thread nD τ) (agM d t) (.dma qS) hsc) (.dma qR) hsrc hdst hsem) k) Q) := by
  unfold kitX sentX
  iintro ⟨#Hctx, Hs, Hd, ⟨Ha, Hb, Ht1, Ht2, Hc⟩, HO⟩ Hk
  iapply (wp_xsend m K c (j, t, true, d) hn hS hR (N_ag d t) (dst := agM d t) (R := iprop(emp)) h1 (Laws.sep_emp.1.trans h2)) $$ [Hs Hd Ht1 Ht2 HO]
  · isplitr; · iexact Hctx
    isplitl [Hs]; · iexact Hs
    isplitl [Hd]; · iexact Hd
    isplitr; · iempintro
    isplitl [HO]; · iexact HO
    isplitl [Ht1]; · iexact Ht1
    iexact Ht2
  iintro ⟨Hcs, HO⟩
  iapply Hk
  isplitr [HO]
  · isplitl [Ha]; · iexact Ha
    isplitl [Hb]; · iexact Hb
    isplitl [Hcs]; · iexact Hcs
    iexact Hc
  iexact HO

/-- The two waits of a hop. -/
theorem wp_hopwait (j : Fin 4) (t : Fin 3) (d : Bool) {sp1 sp1' sp2 sp2' : Space} {s1 s2 : Shape} {e1 e2 : EltTy}
    {src1 : Memref sig .tc sp1 s1 e1} {dst1 : Memref sig .tc sp1' S512x2048 .bf16} {src2 : Memref sig .tc sp2 s2 e2} {dst2 : Memref sig .tc sp2' S512x2048 .bf16}
    {q1 q2 : DmaSem sig} (h1 : q1 = xsem false (j, t, true, d)) (h2 : q2 = xsem true (j, t, true, d))
    (hN1 : dst1.view.dmaCredit = N) (hN2 : dst2.view.dmaCredit = N) {l : List (Pay nD τ sig)} (hl : LB (15 + 18 * j.val + 2 * t.val) l)
    {hs1 : src1.view.WordExact} {hd1 : dst1.view.WordExact} {hs2 : src2.view.WordExact} {hd2 : dst2.view.WordExact}
    {k : PUnit → Prog (TpuEff nD τ sig (Elt F) Λ₀ .tc) α} :
    iprop(ctx m K ∗ sentX c (j, t, true, d) ∗ owe c l)
      ⊢ iprop(((doneX c (j, t, true, d) ∗ xPay m false (j, t, true, d) c ∗ xPay m true (j, t, true, d) c ∗ owe c l) -∗ WP c (k ⟨⟩) Q)
          -∗ WP c (.op (.waitDma2 q1 src1 dst1 hs1 hd1) fun _ => .op (.waitDma2 q2 src2 dst2 hs2 hd2) k) Q) := by
  unfold sentX doneX
  iintro ⟨#Hctx, ⟨Ha, Hb, Hcs, Hcr⟩, HO⟩ Hk
  iapplyF (wp_xwait m K c false (j, t, true, d) h1 hN1 0 (by decide) (hl.mono (by omega)))
  iintro ⟨Hp1, Hz1, HO⟩
  iapplyF (wp_xwait m K c true (j, t, true, d) h2 hN2 (iX (j, t, true, d)) (iX_lt _) (hl.mono (by unfold iX; simp only [if_true]; omega)))
  iintro ⟨Hp2, Hz2, HO⟩
  iapply Hk
  iclose

theorem snd0 (j : Fin 4) (d : Bool) : sndPay m (j, 0, true, d) c = own c (sendM d) fullShare (acc m d j 3 c) := rfl
theorem snd1 (j : Fin 4) (d : Bool) : sndPay m (j, 1, true, d) c = own c (agM d 0) fullShare.left (agC m d j 0 c) := rfl
theorem snd2 (j : Fin 4) (d : Bool) : sndPay m (j, 2, true, d) c = own c (agM d 1) fullShare.left (agC m d j 1 c) := rfl
theorem rcv (j : Fin 4) (t : Fin 3) (d : Bool) : rcvPay m (j, t, true, d) c = own c (agM d t) fullShare (agC m d j t.val c) := rfl
theorem rcv0 (j : Fin 4) (d : Bool) : own (nb d c) (agM d 0) fullShare (acc m d j 3 c) ⊢ rcvPay m (j, 0, true, d) (nb d c) := by
  rw [rcv]; show _ ⊢ own (nb d c) (agM d 0) fullShare (acc m d j 3 (pb d (nb d c))); rw [pb_nb]
theorem rcv1 (j : Fin 4) (d : Bool) : own (nb d c) (agM d 1) fullShare (agC m d j 0 c) ⊢ rcvPay m (j, 1, true, d) (nb d c) := by
  rw [rcv]; show _ ⊢ own (nb d c) (agM d 1) fullShare (agC m d j 0 (pb d (nb d c))); rw [pb_nb]
theorem rcv2 (j : Fin 4) (d : Bool) : own (nb d c) (agM d 2) fullShare (agC m d j 1 c) ⊢ rcvPay m (j, 2, true, d) (nb d c) := by
  rw [rcv]; show _ ⊢ own (nb d c) (agM d 2) fullShare (agC m d j 1 (pb d (nb d c))); rw [pb_nb]
theorem xp_f (x : X) : xPay m false x c = sndPay m x c := rfl
theorem xp_t (x : X) : xPay m true x c = rcvPay m x c := rfl

/-! ## Tiles of the result -/

/-- What the copy of a tile credits. -/
abbrev No : ℕ := (oM 0 0 true).view.dmaCredit
theorem No_pos : 0 < No := View.dmaCredit_pos _ (by decide)
theorem No_o (a : Dev nD) (j : Fin 4) (d : Bool) : (oM a j d).view.dmaCredit = No := rfl

/-- A tile on its way out of a direction's stage. -/
def flying (c a : Dev nD) (j : Fin 4) (d : Bool) (v : Vec F S512x2048 .f32) : sProp 𝕄 :=
  Fl c d No iprop(own c (oM a j d) fullShare v ∗ own c (tmpM d) fullShare v)

abbrev sem0 (c : Dev nD) (d : Bool) : sProp 𝕄 := semVal ((c : Thread nD τ), .dma (locS d)) 0

theorem wp_ostart {a : Dev nD} {j : Fin 4} (d : Bool) {off : Fin 2 → Nat} {inb hs} (h : off = ![2048 * a.val + 512 * j.val, coff d])
    {s : DmaSem sig} (hs' : s = locS d) {hsrc : (tmpM d).view.WordExact}
    {hdst : (oH.slice (Rect.unit (s := S8192x4096) off S512x2048.size inb) hs).view.WordExact} {hsem}
    {k : PUnit → Prog (TpuEff nD τ sig (Elt F) Λ₀ .tc) α} {v : Vec F S512x2048 .f32} :
    iprop(own c (tmpM d) fullShare v ∗ ownE c (oM a j d) ∗ sem0 c d)
      ⊢ iprop((flying c a j d v -∗ WP c (k ⟨⟩) Q)
          -∗ WP c (.op (.enqueueDma (tmpM d) (.here (oH.slice (Rect.unit (s := S8192x4096) off S512x2048.size inb) hs)) (.dma s) hsrc hdst hsem) k) Q) := by
  subst h
  unfold flying
  iintro ⟨H1, H2, H3⟩ Hk
  iapplyF (wp_lstart c d hs' No (No_o a j d) No_pos (src := tmpM d) (dst := oM a j d))
  iintro Hf
  iapply Hk $$ Hf

theorem wp_owait {a a' : Dev nD} {j j' : Fin 4} (d : Bool) {off : Fin 2 → Nat} {inb hs} (h : off = ![2048 * a'.val + 512 * j'.val, coff d])
    {s : DmaSem sig} (hs' : s = locS d) {hsrc : (tmpM d).view.WordExact}
    {hdst : (oH.slice (Rect.unit (s := S8192x4096) off S512x2048.size inb) hs).view.WordExact}
    {k : PUnit → Prog (TpuEff nD τ sig (Elt F) Λ₀ .tc) α} {v : Vec F S512x2048 .f32} {l : List (Pay nD τ sig)} (hl : LB 1 l) :
    iprop(ctx m K ∗ flying c a j d v ∗ owe c l)
      ⊢ iprop(((own c (oM a j d) fullShare v ∗ ownE c (tmpM d) ∗ sem0 c d ∗ owe c l) -∗ WP c (k ⟨⟩) Q)
          -∗ WP c (.op (.waitDma2 s (tmpM d) (oH.slice (Rect.unit (s := S8192x4096) off S512x2048.size inb) hs) hsrc hdst) k) Q) := by
  subst h
  unfold flying
  iintro ⟨#Hctx, Hf, HO⟩ Hk
  iapplyF (wp_lwait m K c d hs' No (No_o a' j' d) hl)
  iintro ⟨⟨Ho, Ht⟩, Hs, HO⟩
  ihave Ht := (own_E c _ _) $$ Ht
  iapply Hk
  iclose

/-- A finished block written into a direction's stage and sent off to its tile. -/
theorem wp_stout {a : Dev nD} {j : Fin 4} (d : Bool) {off : Fin 2 → Nat} {inb hs} (h : off = ![2048 * a.val + 512 * j.val, coff d])
    {s : DmaSem sig} (hs' : s = locS d) {w v : Vec F S512x2048 .f32} (hw : w = v)
    {inb1 : ∀ a, (![0, 0] : Fin 2 → Nat) a + S512x2048.size a ≤ S512x2048.size a} {inb2 : ∀ a, (![0, 0] : Fin 2 → Nat) a + S512x2048.size a ≤ S512x2048.size a}
    {hl1 : (tmpM d).view.LoadsAt (Rect.unit (s := S512x2048) ![0, 0] S512x2048.size inb1).toLoadRect}
    {hx : ((tmpM d).access (Rect.unit (s := S512x2048) ![0, 0] S512x2048.size inb2)).Stores Finset.univ} {hm} {hsrc : (tmpM d).view.WordExact}
    {hdst : (oH.slice (Rect.unit (s := S8192x4096) off S512x2048.size inb) hs).view.WordExact} {hsem}
    {k : PUnit → Prog (TpuEff nD τ sig (Elt F) Λ₀ .tc) α} :
    iprop(ownE c (tmpM d) ∗ ownE c (oM a j d) ∗ sem0 c d)
      ⊢ iprop((flying c a j d v -∗ WP c (k ⟨⟩) Q)
          -∗ WP c (.op (.load (tmpM d) (Rect.unit (s := S512x2048) ![0, 0] S512x2048.size inb1).toLoadRect hl1) fun _ =>
            .op (.store (tmpM d) (Rect.unit (s := S512x2048) ![0, 0] S512x2048.size inb2) w Finset.univ hx hm) fun _ =>
            .op (.enqueueDma (tmpM d) (.here (oH.slice (Rect.unit (s := S8192x4096) off S512x2048.size inb) hs)) (.dma s) hsrc hdst hsem) k) Q) := by
  subst hw
  iintro ⟨H1, H2, H3⟩ Hk
  iapplyF (wp_ldE c (M := tmpM d))
  iintro %V H1
  iapplyF (wp_stw c (M := tmpM d))
  iintro H1
  iapplyF (wp_ostart c d h hs')
  iintro Hf
  iapply Hk $$ Hf

/-- The same out of a gathered slot. -/
theorem wp_gstout {a : Dev nD} {j : Fin 4} (d : Bool) (t : Fin 3) {off : Fin 2 → Nat} {inb hs} (h : off = ![2048 * a.val + 512 * j.val, coff d])
    {s : DmaSem sig} (hs' : s = locS d) {q : PosShare TreeShare} {Y : Vec F S512x2048 .bf16} (pay : Vec F S1x512x2048 .bf16 → Vec F S512x2048 .f32) {v : Vec F S512x2048 .f32}
    (hw : ∀ V, shapeCast S512x2048 V shapeCasts_S1x512x2048_S512x2048 = Y → pay V = v) {inbg}
    {hlg : (agW d).view.LoadsAt (Rect.unit (s := S3x512x2048) ![t.val, 0, 0] S1x512x2048.size inbg).toLoadRect}
    {inb1 : ∀ a, (![0, 0] : Fin 2 → Nat) a + S512x2048.size a ≤ S512x2048.size a} {inb2 : ∀ a, (![0, 0] : Fin 2 → Nat) a + S512x2048.size a ≤ S512x2048.size a}
    {hl1 : (tmpM d).view.LoadsAt (Rect.unit (s := S512x2048) ![0, 0] S512x2048.size inb1).toLoadRect}
    {hx : ((tmpM d).access (Rect.unit (s := S512x2048) ![0, 0] S512x2048.size inb2)).Stores Finset.univ} {hm} {hsrc : (tmpM d).view.WordExact}
    {hdst : (oH.slice (Rect.unit (s := S8192x4096) off S512x2048.size inb) hs).view.WordExact} {hsem}
    {k : PUnit → Prog (TpuEff nD τ sig (Elt F) Λ₀ .tc) α} :
    iprop(own c (agM d t) q Y ∗ ownE c (tmpM d) ∗ ownE c (oM a j d) ∗ sem0 c d)
      ⊢ iprop(((own c (agM d t) q Y ∗ flying c a j d v) -∗ WP c (k ⟨⟩) Q)
          -∗ WP c (.op (.load (agW d) (Rect.unit (s := S3x512x2048) ![t.val, 0, 0] S1x512x2048.size inbg).toLoadRect hlg) fun V =>
            .op (.load (tmpM d) (Rect.unit (s := S512x2048) ![0, 0] S512x2048.size inb1).toLoadRect hl1) fun _ =>
            .op (.store (tmpM d) (Rect.unit (s := S512x2048) ![0, 0] S512x2048.size inb2) (pay V) Finset.univ hx hm) fun _ =>
            .op (.enqueueDma (tmpM d) (.here (oH.slice (Rect.unit (s := S8192x4096) off S512x2048.size inb) hs)) (.dma s) hsrc hdst hsem) k) Q) := by
  iintro ⟨H0, H1, H2, H3⟩ Hk
  iapplyF (wp_ldag c d t)
  iintro %V %hV H0
  iapplyF (wp_stout c d h hs' (hw V hV))
  iintro Hf
  iapply Hk
  iclose

/-- What a gathered slot becomes in the result is the finished block of the device it started from. -/
theorem pay_ag (d : Bool) (j : Fin 4) (t : Fin 3) (V : Vec F S1x512x2048 .bf16)
    (h : shapeCast S512x2048 V shapeCasts_S1x512x2048_S512x2048 = agC m d j t.val c) : k0_pay11 V = outV m d j (chunk d c t.val) := by
  rw [pay11_eq, h, agC_eq]; rfl

end Cert.Ring

end
-- ==== Proof.GatherA.lean ====
/- The first hop of a grid point, and the device's own block going out. -/
module

public import proofs.«01_k».proof.Proof.Hops

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD) {α : Type} {Q : α → sProp (MT nD τ sig ℕ (Elt F) ℕ UU ℕ)}

abbrev p5 (i : grid0.Coords) (c : Dev nD) (v4 v7 : BitVec 32) : Prog (TpuEff nD τ sig (Elt F) Λ₀ .tc) PUnit :=
  k0_part5 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 c v4 v7
abbrev p6 (i : grid0.Coords) (c : Dev nD) (v4 v7 : BitVec 32) : Prog (TpuEff nD τ sig (Elt F) Λ₀ .tc) PUnit :=
  k0_part6 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 c v4 v7

set_option maxHeartbeats 4000000 in
/-- The first hop both ways, the device's own block written out meanwhile; the second hop to the right starts. -/
theorem tailA (i : grid0.Coords) (v4 v7 v4' v7' : BitVec 32) (k : PUnit → Prog (TpuEff nD τ sig (Elt F) Λ₀ .tc) α) (l : List (Pay nD τ sig))
    (hl : LB (15 + 18 * (jj i).val) l) :
    iprop(ctx m K ∗ flying c c (jj i) true (outV m true (jj i) c) ∗ own c (tmpM false) fullShare (outV m false (jj i) c) ∗ ownE c (oM c (jj i) false) ∗ sem0 c false
        ∗ own c (sendM true) fullShare (acc m true (jj i) 3 c) ∗ own c (sendM false) fullShare (acc m false (jj i) 3 c)
        ∗ agAll (nb true c) true ∗ agAll (nb false c) false ∗ kitX c (jj i, 0, true, true) ∗ kitX c (jj i, 0, true, false) ∗ kitX c (jj i, 1, true, true)
        ∗ owe c (payX c (jj i, 0, true, true) :: payX c (jj i, 0, true, false) :: payX c (jj i, 1, true, true) :: l))
      ⊢ iprop(((own c (oM c (jj i) true) fullShare (outV m true (jj i) c) ∗ own c (oM c (jj i) false) fullShare (outV m false (jj i) c)
            ∗ ownE c (tmpM true) ∗ ownE c (tmpM false) ∗ sem0 c true ∗ sem0 c false ∗ ownE c (sendM true) ∗ ownE c (sendM false)
            ∗ doneX c (jj i, 0, true, true) ∗ doneX c (jj i, 0, true, false) ∗ own c (agM true 0) fullShare.right (agC m true (jj i) 0 c) ∗ own c (agM false 0) fullShare (agC m false (jj i) 0 c)
            ∗ ownE (nb true c) (agM true 2) ∗ ownE (nb false c) (agM false 1) ∗ ownE (nb false c) (agM false 2) ∗ sentX c (jj i, 1, true, true) ∗ owe c l)
          -∗ WP c (k ⟨⟩) Q)
        -∗ WP c (p5 i c v4 v7 >>= fun _ => p6 i c v4' v7' >>= k) Q) := by
  have hj : iX (jj i, 1, true, true) = 16 + 18 * (jj i).val := by unfold iX; simp only [if_true]; have : (1 : Fin 3).val = 1 := rfl; omega
  have hl1 : LB (15 + 18 * (jj i).val) (payX c (jj i, 1, true, true) :: l) := .cons rfl (show _ ≤ iX (jj i, 1, true, true) by rw [hj]; omega) (iX_lt (jj i, 1, true, true)) hl
  have h0 : LB 1 (payX c (jj i, 0, true, true) :: payX c (jj i, 0, true, false) :: payX c (jj i, 1, true, true) :: l) :=
    ((LB_ag c (jj i) 0).mono (by omega)).append (hl1.mono (by omega))
  unfold p5 p6
  simp only [k0_part5_eq_skeleton, k0_part6_eq_skeleton]
  unfold k0_part5_skel k0_part6_skel
  simp only [Prog.lift, Prog.bind_op, Prog.bind_ret, Prog.bind_assoc, Prog.pure_eq_ret]
  unfold agAll
  iintro ⟨#Hctx, Hf, Htl, Hol, Hsl, Hr, Hl, ⟨Hr0, Hr1, Hr2⟩, ⟨Hl0, Hl1, Hl2⟩, Kr0, Kl0, Kr1, HO⟩ Hk
  iapplyF (wp_ostart c false (off7_eq i c) (s := cc0_scratch11.sem) rfl)
  iintro Hfl
  iapplyF (wp_owait m K c true (off6_eq i c) (s := cc0_scratch10.sem) rfl h0)
  iintro ⟨Hor, Htr, Hsr, HO⟩
  iapplyF (wp_owait m K c false (off7_eq i c) (s := cc0_scratch11.sem) rfl h0)
  iintro ⟨Hol, Htl, Hsl, HO⟩
  iapplyF (wp_hop m K c (jj i) 0 true (Fin.ext (k0_dev7_eq c)) (sem20 (k0_off8_eq i) _) (sem21 (k0_off8_eq i) _) (src := sendM true) .rfl (rcv0 m c (jj i) true))
  iintro ⟨Xr0, HO⟩
  iapplyF (wp_hop m K c (jj i) 0 false (Fin.ext (k0_dev8_eq c)) (sem22 (k0_off8_eq i) _) (sem23 (k0_off8_eq i) _) (src := sendM false) .rfl (rcv0 m c (jj i) false))
  iintro ⟨Xl0, HO⟩
  iapplyF (wp_hopwait m K c (jj i) 0 true (sem20 (k0_off8_eq i) _) (sem21 (k0_off8_eq i) _) (N_send true) (N_ag true 0) hl1)
  rw [xp_f, xp_t, snd0, rcv]
  iintro ⟨Dr0, Hr, Gr, HO⟩
  iapplyF (wp_hopwait m K c (jj i) 0 false (sem22 (k0_off8_eq i) _) (sem23 (k0_off8_eq i) _) (N_send false) (N_ag false 0) hl1)
  rw [xp_f, xp_t, snd0, rcv]
  iintro ⟨Dl0, Hl, Gl, HO⟩
  ihave ⟨Gra, Grb⟩ := (owns_halves _ _ _ _).1 $$ Gr
  iapplyF (wp_hop m K c (jj i) 1 true (Fin.ext (k0_dev9_eq c)) (sem20 (k0_off9_eq i) _) (sem21 (k0_off9_eq i) _) (src := agM true 0) .rfl (rcv1 m c (jj i) true))
  iintro ⟨Xr1, HO⟩
  ihave Hr := (own_E c _ _) $$ Hr
  ihave Hl := (own_E c _ _) $$ Hl
  iapply Hk
  iclose

end Cert.Ring

end
-- ==== Proof.GatherB.lean ====
/- The second hop, and the blocks of the first going out. -/
module

public import proofs.«01_k».proof.Proof.Hops

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD) {α : Type} {Q : α → sProp (MT nD τ sig ℕ (Elt F) ℕ UU ℕ)}

abbrev p7 (i : grid0.Coords) (c : Dev nD) (a v2 : BitVec 32) : Prog (TpuEff nD τ sig (Elt F) Λ₀ .tc) (Σ' (_ : FVec F S512x2048 .f32), Vec F S512x2048 .f32) :=
  k0_part7 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 a c v2
abbrev p8 (i : grid0.Coords) (c : Dev nD) (v4 : BitVec 32) (v136 : FVec F S512x2048 .f32) (v137 : Vec F S512x2048 .f32) : Prog (TpuEff nD τ sig (Elt F) Λ₀ .tc) PUnit :=
  k0_part8 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 c v4 v136 v137

set_option maxHeartbeats 4000000 in
/-- The second hop to the left starts; the blocks of the first hop go out; the second hop to the right is awaited. -/
theorem tailB (i : grid0.Coords) (a v2 v4 : BitVec 32) (k : PUnit → Prog (TpuEff nD τ sig (Elt F) Λ₀ .tc) α) (l : List (Pay nD τ sig))
    (hl : LB (17 + 18 * (jj i).val) l) :
    iprop(ctx m K ∗ ownE c (tmpM true) ∗ ownE c (tmpM false) ∗ sem0 c true ∗ sem0 c false ∗ own c (agM true 0) fullShare.right (agC m true (jj i) 0 c) ∗ own c (agM false 0) fullShare (agC m false (jj i) 0 c)
        ∗ ownE (nb false c) (agM false 1) ∗ kitX c (jj i, 1, true, false) ∗ sentX c (jj i, 1, true, true) ∗ ownE c (oM (chunk true c 0) (jj i) true) ∗ ownE c (oM (chunk false c 0) (jj i) false)
        ∗ owe c (payX c (jj i, 1, true, false) :: l))
      ⊢ iprop(((own c (oM (chunk true c 0) (jj i) true) fullShare (outV m true (jj i) (chunk true c 0)) ∗ own c (oM (chunk false c 0) (jj i) false) fullShare (outV m false (jj i) (chunk false c 0))
            ∗ ownE c (tmpM true) ∗ ownE c (tmpM false) ∗ sem0 c true ∗ sem0 c false ∗ own c (agM false 0) fullShare.right (agC m false (jj i) 0 c) ∗ sentX c (jj i, 1, true, false) ∗ doneX c (jj i, 1, true, true)
            ∗ ownE c (agM true 0) ∗ own c (agM true 1) fullShare (agC m true (jj i) 1 c) ∗ owe c l)
          -∗ WP c (k ⟨⟩) Q)
        -∗ WP c (p7 i c a v2 >>= fun r => p8 i c v4 r.1 r.2 >>= k) Q) := by
  have h1 : LB 1 l := hl.mono (by omega)
  unfold p7 p8
  simp only [k0_part7_eq_skeleton, k0_part8_eq_skeleton]
  unfold k0_part7_skel k0_part8_skel
  simp only [Prog.lift, Prog.bind_op, Prog.bind_ret, Prog.bind_assoc, Prog.pure_eq_ret]
  iintro ⟨#Hctx, Htr, Htl, Hsr, Hsl, Gr, Gl, Hl1, Kl1, Xr1, Hor, Hol, HO⟩ Hk
  ihave ⟨Gla, Glb⟩ := (owns_halves _ _ _ _).1 $$ Gl
  iapplyF (wp_hop m K c (jj i) 1 false (Fin.ext (k0_dev10_eq c)) (sem22 (k0_off9_eq i) _) (sem23 (k0_off9_eq i) _) (src := agM false 0) .rfl (rcv1 m c (jj i) false))
  iintro ⟨Xl1, HO⟩
  iapplyF (wp_gstout c true 0 (off10_eq i c 0) (s := cc0_scratch10.sem) rfl k0_pay11 (fun V h => pay_ag m c true (jj i) 0 V h))
  iintro ⟨Gr, Fr⟩
  iapplyF (wp_gstout c false 0 (off11_eq i c 0) (s := cc0_scratch11.sem) rfl (fun V => k0_pay13 (k0_pay12 V)) (fun V h => pay_ag m c false (jj i) 0 V h))
  iintro ⟨Glb, Fl⟩
  iapplyF (wp_owait m K c true (off10_eq i c 0) (s := cc0_scratch10.sem) rfl h1)
  iintro ⟨Hor, Htr, Hsr, HO⟩
  iapplyF (wp_owait m K c false (off11_eq i c 0) (s := cc0_scratch11.sem) rfl h1)
  iintro ⟨Hol, Htl, Hsl, HO⟩
  iapplyF (wp_hopwait m K c (jj i) 1 true (sem20 (k0_off9_eq i) _) (sem21 (k0_off9_eq i) _) (N_ag true 0) (N_ag true 1) (hl.mono (show 15 + 18 * (jj i).val + 2 * 1 ≤ _ by omega)))
  rw [xp_f, xp_t, snd1, rcv]
  iintro ⟨Dr1, Gra, Gr1, HO⟩
  ihave Gr := (owns_halves _ _ _ _).2 $$ [Gra Gr]
  · iclose
  ihave Gr := (own_E c _ _) $$ Gr
  iapply Hk
  iclose

end Cert.Ring

end
-- ==== Proof.GatherC.lean ====
/- The third hop starts, and the blocks of the second go out. -/
module

public import proofs.«01_k».proof.Proof.Hops

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD) {α : Type} {Q : α → sProp (MT nD τ sig ℕ (Elt F) ℕ UU ℕ)}

abbrev p9 (i : grid0.Coords) (c : Dev nD) (v4 v7 : BitVec 32) : Prog (TpuEff nD τ sig (Elt F) Λ₀ .tc) PUnit :=
  k0_part9 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 c v4 v7
abbrev p10 (i : grid0.Coords) (c : Dev nD) (a v2 : BitVec 32) : Prog (TpuEff nD τ sig (Elt F) Λ₀ .tc) PUnit :=
  k0_part10 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 a c v2

set_option maxHeartbeats 4000000 in
/-- The second hop to the left is awaited; the third starts both ways; the blocks of the second go out. -/
theorem tailC (i : grid0.Coords) (v4 v7 a v2 : BitVec 32) (k : PUnit → Prog (TpuEff nD τ sig (Elt F) Λ₀ .tc) α) (l : List (Pay nD τ sig))
    (hl : LB (17 + 18 * (jj i).val) l) :
    iprop(ctx m K ∗ ownE c (tmpM true) ∗ ownE c (tmpM false) ∗ sem0 c true ∗ sem0 c false ∗ own c (agM false 0) fullShare.right (agC m false (jj i) 0 c) ∗ sentX c (jj i, 1, true, false) ∗ own c (agM true 1) fullShare (agC m true (jj i) 1 c)
        ∗ ownE (nb true c) (agM true 2) ∗ ownE (nb false c) (agM false 2) ∗ kitX c (jj i, 2, true, true) ∗ kitX c (jj i, 2, true, false) ∗ ownE c (oM (chunk true c 1) (jj i) true) ∗ ownE c (oM (chunk false c 1) (jj i) false)
        ∗ owe c (payX c (jj i, 2, true, true) :: payX c (jj i, 2, true, false) :: l))
      ⊢ iprop(((flying c (chunk true c 1) (jj i) true (outV m true (jj i) (chunk true c 1)) ∗ flying c (chunk false c 1) (jj i) false (outV m false (jj i) (chunk false c 1))
            ∗ doneX c (jj i, 1, true, false) ∗ ownE c (agM false 0) ∗ sentX c (jj i, 2, true, true) ∗ sentX c (jj i, 2, true, false) ∗ own c (agM true 1) fullShare.right (agC m true (jj i) 1 c) ∗ own c (agM false 1) fullShare.right (agC m false (jj i) 1 c) ∗ owe c l)
          -∗ WP c (k ⟨⟩) Q)
        -∗ WP c (p9 i c v4 v7 >>= fun _ => p10 i c a v2 >>= k) Q) := by
  have hl2 : LB (17 + 18 * (jj i).val) (payX c (jj i, 2, true, true) :: payX c (jj i, 2, true, false) :: l) := ((LB_hop c (jj i) 2).mono (by show _ ≤ 14 + 18 * (jj i).val + 2 * 2; omega)).append hl
  unfold p9 p10
  simp only [k0_part9_eq_skeleton, k0_part10_eq_skeleton]
  unfold k0_part9_skel k0_part10_skel
  simp only [Prog.lift, Prog.bind_op, Prog.bind_ret, Prog.bind_assoc, Prog.pure_eq_ret]
  iintro ⟨#Hctx, Htr, Htl, Hsr, Hsl, Gl0, Xl1, Gr1, Hr2, Hl2, Kr2, Kl2, Hor, Hol, HO⟩ Hk
  iapplyF (wp_hopwait m K c (jj i) 1 false (sem22 (k0_off9_eq i) _) (sem23 (k0_off9_eq i) _) (N_ag false 0) (N_ag false 1) (hl2.mono (show 15 + 18 * (jj i).val + 2 * 1 ≤ _ by omega)))
  rw [xp_f, xp_t, snd1, rcv]
  iintro ⟨Dl1, Gla, Gl1, HO⟩
  ihave Gl := (owns_halves _ _ _ _).2 $$ [Gla Gl0]
  · iclose
  ihave Gl := (own_E c _ _) $$ Gl
  ihave ⟨Gra, Grb⟩ := (owns_halves _ _ _ _).1 $$ Gr1
  iapplyF (wp_hop m K c (jj i) 2 true (Fin.ext (k0_dev11_eq c)) (sem20 (k0_off12_eq i) _) (sem21 (k0_off12_eq i) _) (src := agM true 1) .rfl (rcv2 m c (jj i) true))
  iintro ⟨Xr2, HO⟩
  ihave ⟨Gla, Glb⟩ := (owns_halves _ _ _ _).1 $$ Gl1
  iapplyF (wp_hop m K c (jj i) 2 false (Fin.ext (k0_dev12_eq c)) (sem22 (k0_off12_eq i) _) (sem23 (k0_off12_eq i) _) (src := agM false 1) .rfl (rcv2 m c (jj i) false))
  iintro ⟨Xl2, HO⟩
  iapplyF (wp_gstout c true 1 (off10_eq i c 1) (s := cc0_scratch10.sem) rfl k0_pay14 (fun V h => pay_ag m c true (jj i) 1 V h))
  iintro ⟨Grb, Fr⟩
  iapplyF (wp_gstout c false 1 (off11_eq i c 1) (s := cc0_scratch11.sem) rfl k0_pay15 (fun V h => pay_ag m c false (jj i) 1 V h))
  iintro ⟨Glb, Fl⟩
  iapply Hk
  iclose

end Cert.Ring

end
-- ==== Proof.GatherD.lean ====
/- The third hop arrives, and its blocks go out. -/
module

public import proofs.«01_k».proof.Proof.Hops

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD) {α : Type} {Q : α → sProp (MT nD τ sig ℕ (Elt F) ℕ UU ℕ)}

abbrev p11 (i : grid0.Coords) (c : Dev nD) (v4 : BitVec 32) : Prog (TpuEff nD τ sig (Elt F) Λ₀ .tc) (BitVec 32) :=
  k0_part11 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 c v4
abbrev p12 (i : grid0.Coords) (c : Dev nD) (a v2 v7 w : BitVec 32) : Prog (TpuEff nD τ sig (Elt F) Λ₀ .tc) (FVec F S512x2048 .f32) :=
  k0_part12 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 a c v2 v7 w
/-- The last statements of a grid point. -/
abbrev pEnd (i : grid0.Coords) (c : Dev nD) (v : FVec F S512x2048 .f32) : Prog (TpuEff nD τ sig (Elt F) Λ₀ .tc) PUnit := do
  let _ ← Prog.lift (.load (tmpM false) (Rect.unit (s := S512x2048) ![0, 0] S512x2048.size inb_S512x2048_S512x2048_0_0).toLoadRect (View.loadsAt_vmem h_S512x2048))
  Prog.lift (.store (tmpM false) (Rect.unit (s := S512x2048) ![0, 0] S512x2048.size inb_S512x2048_S512x2048_0_0) (k0_pay1 v) Finset.univ (View.stores_vmem_bits_univ h_S512x2048 rfl) (.inl rfl))
  let v274 : Memref sig .tc .hbm S512x2048 .f32 := oH.slice (Rect.unit (s := S8192x4096) (k0_off11 i c 2#32) S512x2048.size (k0_off11_inb i c 2)) (fun _ => rfl)
  Prog.lift (.enqueueDma (tmpM false) (.here v274) (.dma cc0_scratch11.sem) (Memref.isWhole_whole _).wordExact (View.wordExact_bits rfl) ⟨Or.inl rfl, trivial⟩)
  let v275 : Memref sig .tc .hbm S512x2048 .f32 := oH.slice (Rect.unit (s := S8192x4096) (k0_off10 i c 2#32) S512x2048.size (k0_off10_inb i c 2)) (fun _ => rfl)
  Prog.lift (.waitDma2 cc0_scratch10.sem (tmpM true) v275 (Memref.isWhole_whole _).wordExact (View.wordExact_bits rfl))
  let v276 : Memref sig .tc .hbm S512x2048 .f32 := oH.slice (Rect.unit (s := S8192x4096) (k0_off11 i c 2#32) S512x2048.size (k0_off11_inb i c 2)) (fun _ => rfl)
  Prog.lift (.waitDma2 cc0_scratch11.sem (tmpM false) v276 (Memref.isWhole_whole _).wordExact (View.wordExact_bits rfl))
  pure ⟨⟩

set_option maxHeartbeats 4000000 in
/-- The third hop is awaited both ways, and its blocks go out. -/
theorem tailD (i : grid0.Coords) (v4 a v2 v7 : BitVec 32) (l : List (Pay nD τ sig)) (hl : LB (19 + 18 * (jj i).val) l) {Q : PUnit → sProp (MT nD τ sig ℕ (Elt F) ℕ UU ℕ)} :
    iprop(ctx m K ∗ flying c (chunk true c 1) (jj i) true (outV m true (jj i) (chunk true c 1)) ∗ flying c (chunk false c 1) (jj i) false (outV m false (jj i) (chunk false c 1))
        ∗ sentX c (jj i, 2, true, true) ∗ sentX c (jj i, 2, true, false) ∗ own c (agM true 1) fullShare.right (agC m true (jj i) 1 c) ∗ own c (agM false 1) fullShare.right (agC m false (jj i) 1 c)
        ∗ ownE c (oM (chunk true c 2) (jj i) true) ∗ ownE c (oM (chunk false c 2) (jj i) false) ∗ owe c l)
      ⊢ iprop(((own c (oM (chunk true c 1) (jj i) true) fullShare (outV m true (jj i) (chunk true c 1)) ∗ own c (oM (chunk false c 1) (jj i) false) fullShare (outV m false (jj i) (chunk false c 1))
            ∗ own c (oM (chunk true c 2) (jj i) true) fullShare (outV m true (jj i) (chunk true c 2)) ∗ own c (oM (chunk false c 2) (jj i) false) fullShare (outV m false (jj i) (chunk false c 2))
            ∗ doneX c (jj i, 2, true, true) ∗ doneX c (jj i, 2, true, false) ∗ ownE c (agM true 1) ∗ ownE c (agM true 2) ∗ ownE c (agM false 1) ∗ ownE c (agM false 2)
            ∗ ownE c (tmpM true) ∗ ownE c (tmpM false) ∗ sem0 c true ∗ sem0 c false ∗ owe c l) -∗ Q ⟨⟩)
        -∗ WP c (p11 i c v4 >>= fun w => p12 i c a v2 v7 w >>= fun v => pEnd i c v) Q) := by
  have h1 : LB 1 l := hl.mono (by omega)
  unfold p11 p12 pEnd
  simp only [k0_part11_eq_skeleton, k0_part12_eq_skeleton]
  unfold k0_part11_skel k0_part12_skel
  simp only [Prog.lift, Prog.bind_op, Prog.bind_ret, Prog.bind_assoc, Prog.pure_eq_ret]
  iintro ⟨#Hctx, Fr, Fl, Xr, Xl, Gr1, Gl1, Hor, Hol, HO⟩ Hk
  iapplyF (wp_owait m K c true (off10_eq i c 1) (s := cc0_scratch10.sem) rfl h1)
  iintro ⟨Hor1, Htr, Hsr, HO⟩
  iapplyF (wp_owait m K c false (off11_eq i c 1) (s := cc0_scratch11.sem) rfl h1)
  iintro ⟨Hol1, Htl, Hsl, HO⟩
  iapplyF (wp_hopwait m K c (jj i) 2 true (sem20 (k0_off12_eq i) _) (sem21 (k0_off12_eq i) _) (N_ag true 1) (N_ag true 2) (hl.mono (show 15 + 18 * (jj i).val + 2 * 2 ≤ _ by omega)))
  rw [xp_f, xp_t, snd2, rcv]
  iintro ⟨Dr, Gra, Gr2, HO⟩
  iapplyF (wp_hopwait m K c (jj i) 2 false (sem22 (k0_off12_eq i) _) (sem23 (k0_off12_eq i) _) (N_ag false 1) (N_ag false 2) (hl.mono (show 15 + 18 * (jj i).val + 2 * 2 ≤ _ by omega)))
  rw [xp_f, xp_t, snd2, rcv]
  iintro ⟨Dl, Gla, Gl2, HO⟩
  ihave Gr1 := (owns_halves _ _ _ _).2 $$ [Gra Gr1]
  · iclose
  ihave Gl1 := (owns_halves _ _ _ _).2 $$ [Gla Gl1]
  · iclose
  iapplyF (wp_gstout c true 2 (off10_eq i c 2) (s := cc0_scratch10.sem) rfl k0_pay16 (fun V h => pay_ag m c true (jj i) 2 V h))
  iintro ⟨Gr2, Fr⟩
  iapplyF (wp_gstout c false 2 (off11_eq i c 2) (s := cc0_scratch11.sem) rfl (fun V => k0_pay1 (k0_pay17 V)) (fun V h => pay_ag m c false (jj i) 2 V h))
  iintro ⟨Gl2, Fl⟩
  iapplyF (wp_owait m K c true (off10_eq i c 2) (s := cc0_scratch10.sem) rfl h1)
  iintro ⟨Hor, Htr, Hsr, HO⟩
  iapplyF (wp_owait m K c false (off11_eq i c 2) (s := cc0_scratch11.sem) rfl h1)
  iintro ⟨Hol, Htl, Hsl, HO⟩
  iapply (wp_ret' c)
  ihave Gr1 := (own_E c _ _) $$ Gr1
  ihave Gl1 := (own_E c _ _) $$ Gl1
  ihave Gr2 := (own_E c _ _) $$ Gr2
  ihave Gl2 := (own_E c _ _) $$ Gl2
  iapply Hk
  iclose

end Cert.Ring

end
-- ==== Proof.Head.lean ====
/- The front of a grid point: the barrier and the weights at the first, the first products, the three steps of the ring,
   and the device's own finished block on its way out. -/
module

public import proofs.«01_k».proof.Proof.Hops

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD) {α : Type} {Q : α → sProp (MT nD τ sig ℕ (Elt F) ℕ UU ℕ)}

/-! ## A family of which one member after another is used up -/

theorem flip {n : ℕ} (A B : Fin n → sProp 𝕄) (k : Fin n) :
    bigSep Finset.univ (fun s : Fin n => if s.val < k.val then B s else A s)
      ⊢ iprop(A k ∗ (B k -∗ bigSep Finset.univ (fun s : Fin n => if s.val < k.val + 1 then B s else A s))) := by
  have h : bigSep (Finset.univ.erase k) (fun s : Fin n => if s.val < k.val then B s else A s)
      = bigSep (Finset.univ.erase k) (fun s : Fin n => if s.val < k.val + 1 then B s else A s) :=
    bigSep_congr fun s hs => by
      have : s.val ≠ k.val := fun h => (Finset.mem_erase.mp hs).1 (Fin.ext h)
      by_cases h1 : s.val < k.val
      · rw [if_pos h1, if_pos (by omega)]
      · rw [if_neg h1, if_neg (by omega)]
  have e1 : bigSep Finset.univ (fun s : Fin n => if s.val < k.val then B s else A s)
      = iprop(A k ∗ bigSep (Finset.univ.erase k) (fun s : Fin n => if s.val < k.val + 1 then B s else A s)) := by
    rw [bigSep_univ_split k, h, if_neg (lt_irrefl _)]; rfl
  have e2 : bigSep Finset.univ (fun s : Fin n => if s.val < k.val + 1 then B s else A s)
      = iprop(B k ∗ bigSep (Finset.univ.erase k) (fun s : Fin n => if s.val < k.val + 1 then B s else A s)) := by
    rw [bigSep_univ_split k, if_pos (Nat.lt_succ_self _)]; rfl
  rw [e1, e2]
  iintro ⟨H1, H2⟩
  isplitl [H1]; · iexact H1
  iintro H3
  isplitl [H3]; · iexact H3
  iexact H2

/-! ## The barrier and the weights -/

/-- What a device starts with: its weights' buffer, what the barrier hands to its neighbours, and the barrier's rights. -/
def startSt (c : Dev nD) : sProp 𝕄 :=
  iprop(ownE c wV ∗ ownE c (recvM true) ∗ ownE c (recvM false) ∗ agAll c true ∗ agAll c false
    ∗ dutyTok ER (barCell (pb true c)) 0 true ∗ dutyTok ER (barCell (pb false c)) 0 false ∗ cred (tallyAt (barCell c) 1 2)
    ∗ atPos ER (barCell c) 0 ∅ 0 ∗ atPos ER (crCell true c) 0 ∅ 0 ∗ atPos ER (crCell false c) 0 ∅ 0)
/-- From then on: the weights are there, the barrier's semaphore is back at zero, the credits are before step 0. -/
def readySt (c : Dev nD) (j : ℕ) : sProp 𝕄 :=
  iprop(own c wV fullShare (m ((c : Thread nD τ).loc main_arg1)) ∗ semVal (barCell c) 0 ∗ crSt c j 0 true ∗ crSt c j 0 false)
def frontSt (c : Dev nD) (j : ℕ) : sProp 𝕄 := if j = 0 then startSt c else readySt m c j
def frontOwe (c : Dev nD) (j : ℕ) : List (Pay nD τ sig) := (if j = 0 then dBar c else []) ++ dFrom c j

/-- The barrier gives the neighbour's landing buffer and slots. -/
theorem crSt_start (d : Bool) : iprop(atPos ER (crCell d c) 0 ∅ 0 ∗ barPay d c) ⊢ crSt (F := F) c 0 0 d := by
  unfold crSt barPay
  rw [if_pos (show 3 * 0 + 0 = 0 from rfl), if_neg (c := 3 * 0 + 0 = 12) (by omega)]
  iintro ⟨Ha, Hr, Hg⟩
  isplitl [Ha]; · iexact Ha
  isplitl [Hr]; · iexact Hr
  isplitl [Hg]
  · unfold agIf; rw [if_pos (.inl rfl)]; iexact Hg
  isplitl []
  · iapply (agIf_neg (fun h => by omega) c d); iempintro
  iempintro

theorem wp_front {j : ℕ} {p : Prop} [Decidable p] (hp : Iff p (j = 0)) {s1 s2 s3 : Sem sig} (h1 : s1 = barS) (h2 : s2 = barS) (h3 : s3 = barS)
    {v1 v2 : p → Dev nD} (hv1 : ∀ h, v1 h = pb true c) (hv2 : ∀ h, v2 h = pb false c)
    {hsrc : wH.view.WordExact} {hdst : wV.view.WordExact} {hsem} {hsrc' : wH.view.WordExact} {hdst' : wV.view.WordExact}
    {T : Prog (TpuEff nD τ sig (Elt F) Λ₀ .tc) α} :
    iprop(ctx m K ∗ frontSt m c j ∗ own c wH fullShare (m ((c : Thread nD τ).loc main_arg1)) ∗ sem0 c true ∗ owe c (frontOwe c j))
      ⊢ iprop(((readySt m c j ∗ own c wH fullShare (m ((c : Thread nD τ).loc main_arg1)) ∗ sem0 c true ∗ owe c (dFrom c j)) -∗ WP c T Q)
          -∗ WP c (if h : p then .op (.semSignal (Dev.tc (v1 h) : Thread nD τ) s1 1) fun _ => .op (.semSignal (Dev.tc (v2 h) : Thread nD τ) s2 1) fun _ =>
              .op (.semWait s3 2) fun _ => .op (.enqueueDma wH (.here wV) (.dma cc0_scratch10.sem) hsrc hdst hsem) fun _ =>
              .op (.waitDma2 cc0_scratch10.sem wH wV hsrc' hdst') fun _ => T else T) Q) := by
  unfold frontSt frontOwe
  by_cases h0 : j = 0
  · subst h0
    rw [dif_pos (hp.mpr rfl), if_pos rfl, if_pos rfl]
    unfold startSt readySt
    iintro ⟨#Hctx, ⟨Hwv, Hr1, Hr2, Hg1, Hg2, Ht1, Ht2, Hc, Ha, Ha1, Ha2⟩, Hw, Hs, HO⟩ Hk
    ihave HO := (show owe c (dBar c ++ dFrom c 0) ⊢ owe c ((barCell (pb true c), 1, 1) :: (barCell (pb false c), 1, 1) :: dFrom c 0) from .rfl) $$ HO
    iapplyF (wp_barsignal m K c true h1 (hv1 (hp.mpr rfl)))
    iintro HO
    iapplyF (wp_barsignal m K c false h2 (hv2 (hp.mpr rfl)))
    iintro HO
    iapplyF (wp_barwait m K c h3 (LB_from c 0))
    iintro ⟨Hp1, Hp2, Hz, HO⟩
    iapplyF (wp_lstart c true (s := cc0_scratch10.sem) rfl wV.view.dmaCredit rfl (View.dmaCredit_pos _ (by decide)) (src := wH) (dst := wV))
    iintro Hf
    iapplyF (wp_lwait m K c true (s := cc0_scratch10.sem) rfl wV.view.dmaCredit rfl ((LB_from c 0).mono (by omega)))
    iintro ⟨⟨Hwv, Hw⟩, Hs, HO⟩
    iapply Hk
    isplitl [Hwv Hz Ha1 Hp1 Ha2 Hp2]
    · isplitl [Hwv]; · iexact Hwv
      isplitl [Hz]; · iexact Hz
      isplitl [Ha1 Hp1]
      · iapplyF (crSt_start c true)
      · iapplyF (crSt_start c false)
    iclose
  · rw [dif_neg (fun h => h0 (hp.mp h)), if_neg h0, if_neg h0, List.nil_append]
    iintro ⟨#Hctx, H1, H2, H3, H4⟩ Hk
    iapply Hk
    iclose

/-! ## The front of a grid point -/

abbrev p3 (i : grid0.Coords) : Prog (TpuEff nD τ sig (Elt F) Λ₀ .tc) (Σ' (_ : BitVec 32) (_ : Dev nD) (_ : BitVec 32) (_ : BitVec 32) (_ : BitVec 32) (_ : BitVec 32), BitVec 32) :=
  k0_part3 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21
abbrev p4 (i : grid0.Coords) (a : BitVec 32) (c : Dev nD) (v2 v4 v7 v27 w : BitVec 32) : Prog (TpuEff nD τ sig (Elt F) Λ₀ .tc) PUnit :=
  k0_part4 i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21 a c v2 v4 v7 v27 w

/-- The rights of the three steps, and what is left of them. -/
abbrev stepsAt (c : Dev nD) (j : Fin 4) (k : ℕ) : sProp 𝕄 :=
  bigSep Finset.univ fun s : Fin 3 => if s.val < k then stepDone (F := F) c j s else stepKit c j s

set_option maxHeartbeats 4000000 in
theorem head (i : grid0.Coords) (k : (Σ' (_ : BitVec 32) (_ : Dev nD) (_ : BitVec 32) (_ : BitVec 32) (_ : BitVec 32) (_ : BitVec 32), BitVec 32) → Prog (TpuEff nD τ sig (Elt F) Λ₀ .tc) α) :
    iprop(ctx m K ∗ frontSt m c (jj i).val ∗ own c wH fullShare (m ((c : Thread nD τ).loc main_arg1)) ∗ sem0 c true ∗ ownE c (tmpM true) ∗ ownE c (tmpM false)
        ∗ ownE c xV ∗ own c xH fullShare (m ((c : Thread nD τ).loc main_arg0)) ∗ ownE c (sendM true) ∗ ownE c (sendM false) ∗ stepsAt c (jj i) 0
        ∗ ownE c (oM c (jj i) true) ∗ owe c (frontOwe c (jj i).val))
      ⊢ iprop((∀ v2 v4 v7 v27 w, (own c wH fullShare (m ((c : Thread nD τ).loc main_arg1)) ∗ semVal (barCell c) 0 ∗ own c wV fullShare (m ((c : Thread nD τ).loc main_arg1))
            ∗ ownE c xV ∗ own c xH fullShare (m ((c : Thread nD τ).loc main_arg0)) ∗ flying c c (jj i) true (outV m true (jj i) c) ∗ own c (tmpM false) fullShare (outV m false (jj i) c)
            ∗ own c (sendM true) fullShare (acc m true (jj i) 3 c) ∗ own c (sendM false) fullShare (acc m false (jj i) 3 c)
            ∗ crSt c (jj i).val 3 true ∗ crSt c (jj i).val 3 false ∗ stepsAt c (jj i) 3 ∗ owe c (dHop c (jj i) 0 ++ dFrom c ((jj i).val + 1)))
          -∗ WP c (k ⟨BitVec.ofNat 32 (i 0).val, c, v2, v4, v7, v27, w⟩) Q)
        -∗ WP c (p3 i >>= fun r => p4 i r.1 r.2.1 r.2.2.1 r.2.2.2.1 r.2.2.2.2.1 r.2.2.2.2.2.1 r.2.2.2.2.2.2 >>= fun _ => k r) Q) := by
  unfold p3 p4
  simp only [k0_part3_eq_skeleton, k0_part4_eq_skeleton]
  unfold k0_part3_skel k0_part4_skel
  simp only [Prog.lift, Prog.bind_op, Prog.bind_ret, Prog.bind_assoc, Prog.pure_eq_ret, semWaitWord, semSignalWord, toInt_one, toInt_two]
  have hst : LB 1 (dFrom c (jj i).val) := (LB_from c _).mono (by omega)
  unfold WP
  rw [wp_deviceId, wp_bind]
  iintro ⟨#Hctx, Hfr, Hwh, Hs, Htr, Htl, Hxv, Hxh, Hsr, Hsl, Hst, Ho, HO⟩ Hk
  iapplyF (wp_front m K c (cond1_iff i) rfl rfl rfl (fun h => Fin.ext (k0_dev1_eq c)) (fun h => Fin.ext (k0_dev2_eq c)))
  unfold readySt
  iintro ⟨⟨Hwv, Hz, Hcr, Hcl⟩, Hwh, Hs, HO⟩
  iapplyF (wp_xload m K c (off1_eq i c) hst)
  iintro ⟨Hxh, Hxv, Hs, HO⟩
  iapplyF (wp_ldw c)
  iintro Hxv
  iapplyF (wp_ldhalf m c true rfl)
  iintro Hwv
  iapplyF (wp_ldE c (M := sendM true))
  iintro %V Hsr
  iapplyF (wp_stw c (M := sendM true))
  iintro Hsr
  ihave Hxv := (own_E c _ _) $$ Hxv
  iapply (wp_ret' c)
  iapplyF (wp_xload m K c (off2_eq i c) hst)
  iintro ⟨Hxh, Hxv, Hs, HO⟩
  iapplyF (wp_ldw c)
  iintro Hxv
  iapplyF (wp_ldhalf m c false rfl)
  iintro Hwv
  iapplyF (wp_ldE c (M := sendM false))
  iintro %V' Hsl
  iapplyF (wp_stw c (M := sendM false))
  iintro Hsl
  ihave Hxv := (own_E c _ _) $$ Hxv
  ihave HO := (Entails.of_eq (congrArg (owe (F := F) c) (by rw [dFrom_step c (jj i), List.append_assoc]))) $$ HO
  iapply (Scf.wp_for_bind _ _ _ _ _ _ k0_t1_ok ⟨⟩ _ (fun n _ => iprop(ctx m K ∗ stepSt m c (jj i) n ∗ stepsAt c (jj i) n
      ∗ owe c (dSt c (jj i) n ++ (dHop c (jj i) 0 ++ dFrom c ((jj i).val + 1))))) ?_) $$ [Htr Htl Hxv Hwv Hxh Hs Hsr Hsl Hcr Hcl Hst HO]
  · intro t u
    iintro ⟨#Hctx, Hs, Hk, HO⟩
    ihave ⟨Hk, Hback⟩ := (show stepsAt (F := F) c (jj i) t.val ⊢ iprop(stepKit c (jj i) (ss t) ∗ (stepDone c (jj i) (ss t) -∗ stepsAt c (jj i) (t.val + 1)))
      from flip (stepKit c (jj i)) (stepDone c (jj i)) (ss t)) $$ Hk
    iapply (wp_wand _ _ _) $$ [Hs Hk HO]
    · iapplyF (trip m K c i t u)
    iintro %u' ⟨Hs, Hd, HO⟩
    isplitr; · iexact Hctx
    isplitl [Hs]; · iexact Hs
    isplitl [Hd Hback]; · iapply Hback $$ Hd
    iexact HO
  · unfold stepSt still
    isplitr; · iexact Hctx
    iclose
  iintro %u ⟨-, Hs, Hst, HO⟩
  ihave Hs := (Entails.of_eq (congrArg (stepSt m c (jj i)) trips_eq)) $$ Hs
  ihave Hst := (Entails.of_eq (congrArg (stepsAt (F := F) c (jj i)) trips_eq)) $$ Hst
  ihave HO := (Entails.of_eq (congrArg (fun n => owe (F := F) c (dSt c (jj i) n ++ (dHop c (jj i) 0 ++ dFrom c ((jj i).val + 1)))) trips_eq)) $$ HO
  ihave HO := (show owe (F := F) c (dSt c (jj i) 3 ++ (dHop c (jj i) 0 ++ dFrom c ((jj i).val + 1))) ⊢ owe c (dHop c (jj i) 0 ++ dFrom c ((jj i).val + 1)) from .rfl) $$ HO
  unfold stepSt still
  icases Hs with ⟨Hsr, Hsl, ⟨Htr, Htl, Hxv, Hwv, Hxh, Hs⟩, Hcr, Hcl⟩
  iapplyF (wp_ldw c (M := sendM true))
  iintro Hsr
  iapplyF (wp_stout c true (off6_eq i c) (s := cc0_scratch10.sem) (v := outV m true (jj i) c) rfl rfl)
  iintro Hf
  iapplyF (wp_ldw c (M := sendM false))
  iintro Hsl
  iapplyF (wp_ldE c (M := tmpM false))
  iintro %V'' Htl
  iapplyF (wp_stw c (M := tmpM false))
  iintro Htl
  ihave Htl := (show own c (tmpM false) fullShare (k0_pay10 (acc m false (jj i) 3 c)) ⊢ own c (tmpM false) fullShare (outV m false (jj i) c) from .rfl) $$ Htl
  iapply Hk
  iclose

end Cert.Ring

end
-- ==== Proof.Point.lean ====
/- One grid point on device `c`, whole. -/
module

public import proofs.«01_k».proof.Proof.GatherA
public import proofs.«01_k».proof.Proof.GatherB
public import proofs.«01_k».proof.Proof.GatherC
public import proofs.«01_k».proof.Proof.GatherD
public import proofs.«01_k».proof.Proof.Head

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)
variable (K : Dev nD × CK → ℕ) (c : Dev nD)

/-- The rights of a grid point's hops, and what is left of them. -/
def hopKits (c : Dev nD) (j : Fin 4) : sProp 𝕄 :=
  iprop(kitX c (j, 0, true, true) ∗ kitX c (j, 0, true, false) ∗ kitX c (j, 1, true, true) ∗ kitX c (j, 1, true, false) ∗ kitX c (j, 2, true, true) ∗ kitX c (j, 2, true, false))
def hopDones (c : Dev nD) (j : Fin 4) : sProp 𝕄 :=
  iprop(doneX c (j, 0, true, true) ∗ doneX c (j, 0, true, false) ∗ doneX c (j, 1, true, true) ∗ doneX c (j, 1, true, false) ∗ doneX c (j, 2, true, true) ∗ doneX c (j, 2, true, false))
/-- A direction's tiles of the result at a grid point, the device's own first: before, and filled. -/
def blank (c : Dev nD) (j : Fin 4) (d : Bool) : sProp 𝕄 :=
  iprop(ownE c (oM c j d) ∗ ownE c (oM (chunk d c 0) j d) ∗ ownE c (oM (chunk d c 1) j d) ∗ ownE c (oM (chunk d c 2) j d))
def tile (c a : Dev nD) (j : Fin 4) (d : Bool) : sProp 𝕄 := own c (oM a j d) fullShare (outV m d j a)
def filled (c : Dev nD) (j : Fin 4) (d : Bool) : sProp 𝕄 :=
  iprop(tile m c c j d ∗ tile m c (chunk d c 0) j d ∗ tile m c (chunk d c 1) j d ∗ tile m c (chunk d c 2) j d)
/-- What a grid point uses up, and what it leaves. -/
def pointKit (c : Dev nD) (j : Fin 4) : sProp 𝕄 := iprop(stepsAt c j 0 ∗ hopKits c j ∗ blank c j true ∗ blank c j false)
def pointDone (c : Dev nD) (j : Fin 4) : sProp 𝕄 := iprop(stepsAt c j 3 ∗ hopDones c j ∗ filled m c j true ∗ filled m c j false)
/-- What a device holds between grid points. -/
def between (c : Dev nD) (j : ℕ) : sProp 𝕄 :=
  iprop(frontSt m c j ∗ own c wH fullShare (m ((c : Thread nD τ).loc main_arg1)) ∗ sem0 c true ∗ sem0 c false ∗ ownE c (tmpM true) ∗ ownE c (tmpM false)
    ∗ ownE c xV ∗ own c xH fullShare (m ((c : Thread nD τ).loc main_arg0)) ∗ ownE c (sendM true) ∗ ownE c (sendM false))

theorem agIf_pos {p : Prop} [Decidable p] (h : p) (c' : Dev nD) (d : Bool) : agIf (F := F) p c' d = agAll c' d := by unfold agIf; rw [if_pos h]

/-- After the steps the neighbour's slots are there for the hops; its own, filled meanwhile, complete the next point's state. -/
theorem crSt_open (j : ℕ) (d : Bool) : crSt (F := F) c j 3 d ⊢ iprop(agAll (nb d c) d ∗ (agAll c d -∗ crSt c (j + 1) 0 d)) := by
  have e : 3 * (j + 1) + 0 - 1 = 3 * j + 3 - 1 := by omega
  have e2 : 3 * (j + 1) + 0 = 3 * j + 3 := by omega
  unfold crSt
  rw [e, e2, if_neg (c := 3 * j + 3 = 0) (by omega)]
  iintro ⟨Ha, -, Hn, -, Hr⟩
  isplitl [Hn]
  · iapply (Entails.of_eq (agIf_pos (p := j = 0 ∨ 2 ≤ 3) (.inr (by omega)) (nb d c) d)) $$ Hn
  iintro Hg
  isplitl [Ha]; · iexact Ha
  isplitr; · iempintro
  isplitl []
  · iapply (agIf_neg (fun h => by omega) (nb d c) d); iempintro
  isplitl [Hg]
  · iapply (Entails.of_eq (agIf_pos (p := 0 < j + 1 ∧ 0 = 0) ⟨by omega, rfl⟩ c d).symm) $$ Hg
  iexact Hr

set_option maxRecDepth 65536 in
set_option maxHeartbeats 4000000 in
theorem point (i : grid0.Coords) :
    iprop(ctx m K ∗ between m c (jj i).val ∗ pointKit c (jj i) ∗ owe c (frontOwe c (jj i).val))
      ⊢ WP c (cc0_body i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21) fun _ =>
        iprop(between m c ((jj i).val + 1) ∗ pointDone m c (jj i) ∗ owe c (frontOwe c ((jj i).val + 1))) := by
  have hfo : frontOwe c ((jj i).val + 1) = dFrom c ((jj i).val + 1) := by unfold frontOwe; rw [if_neg (by omega), List.nil_append]
  have hfs : frontSt m c ((jj i).val + 1) = readySt m c ((jj i).val + 1) := by unfold frontSt; rw [if_neg (by omega)]
  have hlF : LB (19 + 18 * (jj i).val) (dFrom c ((jj i).val + 1)) := (LB_from c _).mono (by omega)
  have hl2 : LB (17 + 18 * (jj i).val) (payX c (jj i, 2, true, true) :: payX c (jj i, 2, true, false) :: dFrom c ((jj i).val + 1)) :=
    ((LB_hop c (jj i) 2).mono (by omega)).append (hlF.mono (by omega))
  have hl1 : LB (15 + 18 * (jj i).val) (payX c (jj i, 1, true, false) :: payX c (jj i, 2, true, true) :: payX c (jj i, 2, true, false) :: dFrom c ((jj i).val + 1)) := by
    have hj : iX (jj i, 1, true, false) = 16 + 18 * (jj i).val := by unfold iX; simp only [if_true]; have : (1 : Fin 3).val = 1 := rfl; omega
    exact .cons rfl (show _ ≤ iX (jj i, 1, true, false) by rw [hj]; omega) (iX_lt (jj i, 1, true, false)) (hl2.mono (by omega))
  rw [hfo, cc0_body_eq_skeleton]
  unfold between pointKit pointDone hopKits hopDones blank filled tile
  rw [hfs]
  iintro ⟨#Hctx, ⟨Hfr, Hwh, Hsr, Hsl, Htr, Htl, Hxv, Hxh, Hr, Hl⟩, ⟨Hst, ⟨Kr0, Kl0, Kr1, Kl1, Kr2, Kl2⟩, ⟨Or, Or0, Or1, Or2⟩, ⟨Ol, Ol0, Ol1, Ol2⟩⟩, HO⟩
  iapplyF (head m K c i fun r => p5 i r.2.1 r.2.2.2.1 r.2.2.2.2.1 >>= fun _ => p6 i r.2.1 r.2.2.2.1 r.2.2.2.2.1 >>= fun _ =>
    p7 i r.2.1 r.1 r.2.2.1 >>= fun q => p8 i r.2.1 r.2.2.2.1 q.1 q.2 >>= fun _ => p9 i r.2.1 r.2.2.2.1 r.2.2.2.2.1 >>= fun _ =>
    p10 i r.2.1 r.1 r.2.2.1 >>= fun _ => p11 i r.2.1 r.2.2.2.1 >>= fun w => p12 i r.2.1 r.1 r.2.2.1 r.2.2.2.2.1 w >>= fun v => pEnd i r.2.1 v)
  iintro %v2 %v4 %v7 %v27 %w ⟨Hwh, Hz, Hwv, Hxv, Hxh, Hf, Htl, Hr, Hl, Hcr, Hcl, Hst, HO⟩
  ihave ⟨Hnr, Hbr⟩ := (crSt_open c (jj i).val true) $$ Hcr
  ihave ⟨Hnl, Hbl⟩ := (crSt_open c (jj i).val false) $$ Hcl
  ihave HO := (show owe (F := F) c (dHop c (jj i) 0 ++ dFrom c ((jj i).val + 1)) ⊢ owe c (payX c (jj i, 0, true, true) :: payX c (jj i, 0, true, false) :: payX c (jj i, 1, true, true)
    :: payX c (jj i, 1, true, false) :: payX c (jj i, 2, true, true) :: payX c (jj i, 2, true, false) :: dFrom c ((jj i).val + 1)) from .rfl) $$ HO
  iapplyF (tailA m K c i v4 v7 v4 v7 _ _ hl1)
  iintro ⟨Tr, Tl, Htr, Htl, Hsr, Hsl, Hr, Hl, Dr0, Dl0, Gr, Gl, Hr2, Hl1, Hl2, Xr1, HO⟩
  iapplyF (tailB m K c i _ v2 v4 _ _ hl2)
  iintro ⟨Tr0, Tl0, Htr, Htl, Hsr, Hsl, Gl, Xl1, Dr1, Gr0, Gr1, HO⟩
  iapplyF (tailC m K c i v4 v7 _ v2 _ _ (hlF.mono (by omega)))
  iintro ⟨Fr, Fl, Dl1, Gl0, Xr2, Xl2, Gr, Gl, HO⟩
  iapplyF (tailD m K c i v4 _ v2 v7 _ hlF)
  iintro ⟨Tr1, Tl1, Tr2, Tl2, Dr2, Dl2, Gr1, Gr2, Gl1, Gl2, Htr, Htl, Hsr, Hsl, HO⟩
  ihave Hcr := Hbr $$ [Gr0 Gr1 Gr2]
  · unfold agAll; iclose
  ihave Hcl := Hbl $$ [Gl0 Gl1 Gl2]
  · unfold agAll; iclose
  unfold readySt
  iclose

end Cert.Ring

end
-- ==== Proof.Fund.lean ====
/- The ghost state of the launch: the cells, the tokens, each dealt to the device that uses it. -/
module

public import proofs.«01_k».proof.Proof.Point

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

/-! ## The semaphores -/

/-- The kernel's own semaphores: the two of the local copies, the two of the credits, the transfers'. -/
abbrev OK : Type := Bool ⊕ (Bool ⊕ (Bool × X))
def osem : OK → SemLoc sig
  | .inl b => .dma (locS b)
  | .inr (.inl d) => .reg (crS d)
  | .inr (.inr (rv, x)) => .dma (xsem rv x)

theorem locS_lt (b : Bool) : (locS b).val < 2 := by revert b; decide
theorem locS_inj : ∀ b b' : Bool, locS b = locS b' → b = b' := by decide
theorem dma_scoped : ∀ q : DmaSem sig, (SemLoc.dma q : SemLoc sig).isScoped .tc = true := by decide
theorem cr_scoped : ∀ d : Bool, (SemLoc.reg (crS d) : SemLoc sig).isScoped .tc = true := by decide

theorem osem_injective : Function.Injective osem := by
  rintro (b | d | ⟨rv, x⟩) (b' | d' | ⟨rv', x'⟩) h
  · rw [locS_inj _ _ (SemLoc.dma.inj h)]
  · cases h
  · have e := congrArg Fin.val (SemLoc.dma.inj h); have h1 := locS_lt b; have h2 := two_le_xnum rv' x'
    exact absurd e (show ¬ (locS b).val = xnum rv' x' by omega)
  · cases h
  · rw [crS_inj _ _ (SemLoc.reg.inj h)]
  · cases h
  · have e := congrArg Fin.val (SemLoc.dma.inj h); have h1 := locS_lt b'; have h2 := two_le_xnum rv x
    exact absurd e (show ¬ xnum rv x = (locS b').val by omega)
  · cases h
  · obtain ⟨rfl, rfl⟩ := xsem_inj (SemLoc.dma.inj h); rfl

theorem ownSemFacts : Pipeline.OwnSemFacts cfg0.spec osem where
  isScoped
    | .inl b => dma_scoped _
    | .inr (.inl d) => cr_scoped d
    | .inr (.inr (rv, x)) => dma_scoped _
  inj := osem_injective
  disj _ w _ := w.elim0

/-- The barrier semaphore is the one that outlives the launch. -/
theorem unscoped_eq (c : Dev nD) : (unscopedSems0 c : sProp 𝕄) = semVal (barCell c) 0 := by
  unfold unscopedSems0; rw [bigSep_eq_bigSepL_of_eq [SemLoc.reg barS] (by decide) (by decide)]; rfl

theorem pair_eq (Φ : Bool → sProp 𝕄) : bigSep Finset.univ Φ = iprop(Φ true ∗ Φ false) :=
  bigSep_univ_eq_bigSepL [true, false] (by decide) (by decide) Φ
theorem option_eq (Φ : Option Bool → sProp 𝕄) : bigSep Finset.univ Φ = iprop(Φ none ∗ Φ (some true) ∗ Φ (some false)) :=
  bigSep_univ_eq_bigSepL [none, some true, some false] (by decide) (by decide) Φ

/-- All transfers' cells of a device at zero. -/
def zeros (c : Dev nD) : sProp 𝕄 := bigSep Finset.univ fun r : Bool × X => semVal (xCell r.1 r.2 c) 0

theorem ownSems_eq (c : Dev nD) : (Pipeline.ownSems0 (Ix := ℕ) (Name := ℕ) (U := UU) (Lvl := ℕ) (Val := Elt F) (τ := τ) osem c : sProp 𝕄)
    = iprop((sem0 c true ∗ sem0 c false) ∗ (semVal (crCell true c) 0 ∗ semVal (crCell false c) 0) ∗ zeros c) := by
  unfold Pipeline.ownSems0
  rw [bigSep_univ_sum, bigSep_univ_sum, pair_eq, pair_eq]; rfl

theorem sems_cells (c : Dev nD) :
    iprop(Pipeline.ownSems0 (Ix := ℕ) (Name := ℕ) (U := UU) (Lvl := ℕ) (Val := Elt F) (τ := τ) osem c ∗ unscopedSems0 c)
      ⊢ iprop((sem0 c true ∗ sem0 c false) ∗ (bigSep Finset.univ fun k : CK => semVal (kcell (c, k)) 0) : sProp 𝕄) := by
  have e : (bigSep Finset.univ fun k : CK => semVal (kcell (c, k)) 0 : sProp 𝕄)
      = iprop((semVal (barCell c) 0 ∗ semVal (crCell true c) 0 ∗ semVal (crCell false c) 0) ∗ zeros c) := by
    rw [bigSep_univ_sum, option_eq]; rfl
  rw [ownSems_eq, unscoped_eq, e]
  iintro ⟨⟨Hl, ⟨Ht, Hf⟩, Hz⟩, Hb⟩
  isplitl [Hl]; · iexact Hl
  isplitl [Hb Ht Hf]
  · isplitl [Hb]; · iexact Hb
    isplitl [Ht]; · iexact Ht
    iexact Hf
  iexact Hz

instance : DecidableEq (Dev nD × CK) := fun a b => decidable_of_iff (a.1 = b.1 ∧ a.2 = b.2) Prod.ext_iff.symm

/-! ## The tokens -/

def ringCells : Finset (GSem nD τ sig) := Finset.univ.map ⟨kcell, kcell_injective⟩

/-- A device's tokens: its barrier's two, a round's of each credit, a transfer's two. -/
abbrev TK : Type := Bool ⊕ (((Fin 4 × Fin 3) × Bool) ⊕ (Bool × X))
abbrev num (p : Fin 4 × Fin 3) : ℕ := 3 * p.1.val + p.2.val
def tokOf (ct : Dev nD × TK) : GSem nD τ sig × ℕ × Bool :=
  match ct.2 with
  | .inl b => (barCell ct.1, 0, b)
  | .inr (.inl (p, d)) => (crCell d ct.1, num p, true)
  | .inr (.inr (rv, x)) => (xCell rv x ct.1, 0, true)

theorem num_inj {p p' : Fin 4 × Fin 3} (h : num p = num p') : p = p' := by
  have h1 := p.2.isLt; have h2 := p'.2.isLt
  exact Prod.ext (Fin.ext (by unfold num at h; omega)) (Fin.ext (by unfold num at h; omega))

theorem tokOf_dev (ct : Dev nD × TK) : (tokOf ct).1.1.1 = ct.1 := by
  obtain ⟨c, b | ⟨p, d⟩ | ⟨rv, x⟩⟩ := ct <;> rfl

theorem tokOf_injective : Function.Injective tokOf := by
  rintro ⟨c, k⟩ ⟨c', k'⟩ h
  have hc : c = c' := (tokOf_dev (c, k)).symm.trans ((congrArg (fun t => t.1.1.1) h).trans (tokOf_dev (c', k')))
  subst hc
  have hs : (tokOf (c, k)).1.2 = (tokOf (c, k')).1.2 := by rw [h]
  have hn : (tokOf (c, k)).2.1 = (tokOf (c, k')).2.1 := by rw [h]
  have hb : (tokOf (c, k)).2.2 = (tokOf (c, k')).2.2 := by rw [h]
  rcases k with b | ⟨p, d⟩ | ⟨rv, x⟩ <;> rcases k' with b' | ⟨p', d'⟩ | ⟨rv', x'⟩
  · rw [show b = b' from hb]
  · exact absurd (SemLoc.reg.inj hs).symm (crS_ne_bar d')
  · cases hs
  · exact absurd (SemLoc.reg.inj hs) (crS_ne_bar d)
  · rw [crS_inj _ _ (SemLoc.reg.inj hs), num_inj (show num p = num p' from hn)]
  · cases hs
  · cases hs
  · cases hs
  · obtain ⟨rfl, rfl⟩ := xsem_inj (SemLoc.dma.inj hs); rfl

def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The tokens of a device's own cells. -/
def toks (c : Dev nD) : sProp 𝕄 :=
  iprop((bigSep Finset.univ fun b : Bool => dutyTok ER (barCell c) 0 b)
    ∗ (bigSep Finset.univ fun r : (Fin 4 × Fin 3) × Bool => dutyTok ER (crCell r.2 c) (num r.1) true)
    ∗ (bigSep Finset.univ fun x : X => dutyTok ER (xCell true x c) 0 true) ∗ (bigSep Finset.univ fun x : X => dutyTok ER (xCell false x c) 0 true))
/-- The tokens of the duties it does itself. -/
def pays (c : Dev nD) : sProp 𝕄 :=
  iprop((bigSep Finset.univ fun b : Bool => dutyTok ER (barCell (pb b c)) 0 b)
    ∗ (bigSep Finset.univ fun r : (Fin 4 × Fin 3) × Bool => dutyTok ER (crCell r.2 (pb r.2 c)) (num r.1) true)
    ∗ (bigSep Finset.univ fun x : X => dutyTok ER (xCell true x (nb x.2.2.2 c)) 0 true) ∗ (bigSep Finset.univ fun x : X => dutyTok ER (xCell false x c) 0 true))

def G (c : Dev nD) : sProp 𝕄 :=
  iprop((bigSep Finset.univ fun k : CK => roundState ER (ringRd m) (kcell (c, k)) 0)
    ∗ (bigSep Finset.univ fun k : CK => atPos ER (kcell (c, k)) 0 ∅ 0) ∗ (bigSep Finset.univ fun k : CK => reached ER (kcell (c, k)) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    unfold toks
    rw [bigSep_univ_sum, bigSep_univ_sum, bigSep_univ_prod (α := Bool) (β := X), pair_eq (fun rv : Bool => bigSep Finset.univ _)]; rfl
  iintro HX
  imod (Rounds.fund ER (ringRd m) ringCells ringToks) $$ HX with ⟨Hst, Hr, Hat, Htok⟩
  imodintro
  ihave Hst := (Entails.of_eq (hX fun g => roundState ER (ringRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr]; · iexact Hr
  iexact Htok

/-! ## Dealing them out -/

theorem swap_sep {A B : Type} [Fintype A] [Fintype B] [DecidableEq A] [DecidableEq B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1)]
  exact bigSep_univ_equiv (Equiv.prodComm B A) (fun p : A × B => Φ p.1 p.2)

/-- A family moved one device on, each member in a direction of its own. -/
theorem around {I : Type} [Fintype I] [DecidableEq I] (e : I → Dev nD ≃ Dev nD) (Φ : I → Dev nD → sProp 𝕄) :
    (bigSep Finset.univ fun c : Dev nD => bigSep Finset.univ fun i : I => Φ i c)
      = bigSep Finset.univ fun c : Dev nD => bigSep Finset.univ fun i : I => Φ i (e i c) := by
  rw [swap_sep, swap_sep (fun (c : Dev nD) i => Φ i (e i c))]
  exact bigSep_congr fun i _ => bigSep_univ_equiv (e i) (Φ i)

theorem toks_pays : (bigSep Finset.univ fun c : Dev nD => (toks c : sProp 𝕄)) = bigSep Finset.univ fun c : Dev nD => pays c := by
  unfold toks pays
  simp only [bigSep_sep']
  rw [around (fun b => (ringE b).symm) (fun b c => (dutyTok ER (barCell c) 0 b : sProp 𝕄)),
    around (fun r => (ringE r.2).symm) (fun (r : (Fin 4 × Fin 3) × Bool) c => (dutyTok ER (crCell r.2 c) (num r.1) true : sProp 𝕄)),
    around (fun x => ringE x.2.2.2) (fun (x : X) c => (dutyTok ER (xCell true x c) 0 true : sProp 𝕄))]
  rfl

/-- What stays with a device: its positions, its tokens, the local copies' semaphores. -/
def linear (c : Dev nD) : sProp 𝕄 :=
  iprop((bigSep Finset.univ fun k : CK => atPos ER (kcell (c, k)) 0 ∅ 0) ∗ pays c ∗ sem0 c true ∗ sem0 c false)
def G' (c : Dev nD) : sProp 𝕄 := iprop(∃ K, recs m K ∗ linear c)

theorem alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => reached ER (kcell (c, k)) 0) ∗ (bigSep Finset.univ fun k : CK => atPos ER (kcell (c, k)) 0 ∅ 0)
          ∗ toks c ∗ sem0 c true ∗ sem0 c false) := by
  have h : iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp 𝕄) := by
    rw [← bigSep_sep']
    exact (bigSep_mono fun k _ => (Rounds.body_intro ER (ringRd m) (kcell (c, k))).trans inv_alloc).trans (bigSep_fupd _ _)
  unfold G
  iintro ⟨Hos, Hus, Hst, Hat, Hr, Htok⟩
  ihave ⟨⟨Ht, Hf⟩, Hv⟩ := (sems_cells (F := F) c) $$ [Hos Hus]
  · isplitl [Hos] <;> iassumption
  imod h $$ [Hv Hst] with Hinv
  · isplitl [Hv] <;> iassumption
  imodintro
  isplitl [Hinv]; · iexact Hinv
  isplitl [Hr]; · iexact Hr
  isplitl [Hat]; · iexact Hat
  isplitl [Htok]; · iexact Htok
  isplitl [Ht] <;> iassumption

theorem deal :
    (bigSep Finset.univ fun c : Dev nD => iprop((bigSep Finset.univ fun k : CK => iprop(∃ κ : ℕ, cellInv ER (ringRd m) κ (kcell (c, k))))
          ∗ (bigSep Finset.univ fun k : CK => reached ER (kcell (c, k)) 0) ∗ (bigSep Finset.univ fun k : CK => atPos ER (kcell (c, k)) 0 ∅ 0)
          ∗ toks c ∗ sem0 c true ∗ sem0 c false) : sProp 𝕄)
      ⊢ bigSep Finset.univ (G' m) := by
  have hone (K : Dev nD × CK → ℕ) : iprop(recs m K ∗ bigSep Finset.univ fun c : Dev nD => linear c) ⊢ bigSep Finset.univ (G' m) := by
    refine (sep_mono_left (BI.bigSep_of_persistent (Finset.univ : Finset (Dev nD)) (recs m K))).trans ?_
    rw [← bigSep_sep']
    have h1 (c : Dev nD) : iprop(recs m K ∗ linear c) ⊢ G' m c := by
      unfold G'
      iintro H
      iexists K
      iexact H
    exact bigSep_mono fun c _ => h1 c
  have hlin : iprop((bigSep Finset.univ fun c : Dev nD => bigSep Finset.univ fun k : CK => atPos ER (kcell (c, k)) 0 ∅ 0)
      ∗ (bigSep Finset.univ fun c : Dev nD => toks c) ∗ (bigSep Finset.univ fun c : Dev nD => sem0 c true) ∗ bigSep Finset.univ fun c : Dev nD => sem0 c false)
      ⊢ (bigSep Finset.univ fun c : Dev nD => linear c : sProp 𝕄) := by
    unfold linear
    rw [toks_pays, bigSep_sep', bigSep_sep', bigSep_sep']
  rw [bigSep_sep', bigSep_sep', bigSep_sep', bigSep_sep', bigSep_sep', ← bigSep_univ_prod (fun ck : Dev nD × CK => iprop(∃ κ : ℕ, cellInv ER (ringRd m) κ (kcell ck))),
    ← bigSep_univ_prod (fun ck : Dev nD × CK => (reached ER (kcell ck) 0 : sProp 𝕄))]
  iintro ⟨HI, #HR, Hlin⟩
  ihave HK := (BI.bigSep_exists_pi Finset.univ (fun (ck : Dev nD × CK) (κ : ℕ) => (cellInv ER (ringRd m) κ (kcell ck) : sProp 𝕄))) $$ HI
  icases HK with ⟨%K, #HI⟩
  iapply (hone K)
  isplitr
  · unfold recs
    rw [bigSep_sep']
    isplitl; · iexact HI
    iexact HR
  · iapply hlin $$ Hlin

/-- All devices at once make their semaphores into cells and deal the tokens round. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (deal m))

end Cert.Ring

end
-- ==== Proof.Due.lean ====
/- What the devices owe at the start, and the credit each of them gets for it. -/
module

public import proofs.«01_k».proof.Proof.Point

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

/-! ## Dues as sums -/

/-- What lands on a device's own cells: a transfer's units, a credit round's, the barrier's. -/
abbrev getX (c : Dev nD) (x : X) : Pay nD τ sig := (xCell true x c, iX x, N)
abbrev getC (c : Dev nD) (n : ℕ) (d : Bool) : Pay nD τ sig := (crCell d c, iC n, 1)
/-- The same with the credit that step `n` waits for, the round before its own. -/
def getRS (c : Dev nD) (j : Fin 4) (s : Fin 3) : List (Pay nD τ sig) :=
  [getX c (j, s, false, true), getX c (j, s, false, false)]
    ++ (if 0 < 3 * j.val + s.val then [getC c (3 * j.val + s.val - 1) true, getC c (3 * j.val + s.val - 1) false] else [])
def getAG (c : Dev nD) (j : Fin 4) (t : Fin 3) : List (Pay nD τ sig) := [getX c (j, t, true, true), getX c (j, t, true, false)]
def getAll (c : Dev nD) : List (Pay nD τ sig) :=
  [(barCell c, 1, 1), (barCell c, 1, 1)] ++ (List.finRange 4).flatMap fun j => (List.finRange 3).flatMap (getRS c j) ++ (List.finRange 3).flatMap (getAG c j)

theorem tallyL_flatMap' {α : Type} (f : α → List (Pay nD τ sig)) (l : List α) : tallyL (l.flatMap f) = (l.map fun a => tallyL (f a)).sum := by
  induction l with
  | nil => rfl
  | cons a l ih => rw [List.flatMap_cons, TalkSites.tallyL_append, ih, List.map_cons, List.sum_cons]
theorem tallyL_flatMap {n : ℕ} (f : Fin n → List (Pay nD τ sig)) : tallyL ((List.finRange n).flatMap f) = ∑ i, tallyL (f i) := by
  rw [tallyL_flatMap', Fin.sum_univ_def]

theorem tallyL_two (x y : Pay nD τ sig) : tallyL [x, y] = x.tally + y.tally := by
  show x.tally + (y.tally + 0) = _; rw [add_zero]

/-- Two of everything, one per direction. -/
def two (f : Bool → CellTallies nD τ sig ℕ) : CellTallies nD τ sig ℕ := f true + f false

theorem owe_sum (c : Dev nD) : tallyL (frontOwe c 0) = two (fun d => Pay.tally (barCell (pb d c), 1, 1))
    + ∑ j : Fin 4, ((∑ s : Fin 3, (two (fun d => Pay.tally (payX c (j, s, false, d)))
        + if 3 * j.val + s.val < NC then two (fun d => Pay.tally (payC c (3 * j.val + s.val) d)) else 0))
      + ∑ t : Fin 3, two fun d => Pay.tally (payX c (j, t, true, d))) := by
  unfold frontOwe dFrom
  rw [if_pos rfl, List.drop_zero, TalkSites.tallyL_append, tallyL_flatMap]
  congr 1
  · exact tallyL_two _ _
  refine Finset.sum_congr rfl fun j _ => ?_
  unfold dSt dHop
  rw [TalkSites.tallyL_append, List.drop_zero, tallyL_flatMap, tallyL_flatMap]
  congr 1
  · refine Finset.sum_congr rfl fun s _ => ?_
    unfold dRS dCR two
    show _ + (_ + tallyL _) = _
    split
    · rw [tallyL_two, ← add_assoc]
    · rw [show tallyL ([] : List (Pay nD τ sig)) = 0 from rfl, add_zero, add_zero]
  · exact Finset.sum_congr rfl fun t _ => tallyL_two _ _

theorem get_sum (c : Dev nD) : tallyL (getAll c) = two (fun d => Pay.tally (barCell c, 1, 1))
    + ∑ j : Fin 4, ((∑ s : Fin 3, (two (fun d => Pay.tally (getX c (j, s, false, d)))
        + if 0 < 3 * j.val + s.val then two (fun d => Pay.tally (getC c (3 * j.val + s.val - 1) d)) else 0))
      + ∑ t : Fin 3, two fun d => Pay.tally (getX c (j, t, true, d))) := by
  unfold getAll
  rw [TalkSites.tallyL_append, tallyL_flatMap]
  congr 1
  · exact tallyL_two _ _
  refine Finset.sum_congr rfl fun j _ => ?_
  rw [TalkSites.tallyL_append, tallyL_flatMap, tallyL_flatMap]
  congr 1
  · refine Finset.sum_congr rfl fun s _ => ?_
    unfold getRS two
    rw [TalkSites.tallyL_append, tallyL_two]
    split
    · rw [tallyL_two]
    · rfl
  · exact Finset.sum_congr rfl fun t _ => tallyL_two _ _

/-- What all devices send in a direction is what all receive in it. -/
theorem sum_nb (d : Bool) (f : Dev nD → CellTallies nD τ sig ℕ) : ∑ c, f (nb d c) = ∑ c, f c := Equiv.sum_comp (ringE d) f
theorem sum_pb (d : Bool) (f : Dev nD → CellTallies nD τ sig ℕ) : ∑ c, f (pb d c) = ∑ c, f c := Equiv.sum_comp (ringE d).symm f
theorem sum_two {f g : Dev nD → Bool → CellTallies nD τ sig ℕ} (h : ∀ d, ∑ c, f c d = ∑ c, g c d) : ∑ c, two (f c) = ∑ c, two (g c) := by
  unfold two; rw [Finset.sum_add_distrib, Finset.sum_add_distrib, h, h]

/-- Counting the rounds from 0 to 10 is counting the steps from 1 to 11 and going one back. -/
theorem shift_sum {M : Type} [AddCommMonoid M] (g : ℕ → M) :
    (∑ j : Fin 4, ∑ s : Fin 3, if 3 * j.val + s.val < 11 then g (3 * j.val + s.val) else 0)
      = ∑ j : Fin 4, ∑ s : Fin 3, if 0 < 3 * j.val + s.val then g (3 * j.val + s.val - 1) else 0 := by
  have hn (p : Fin 4 × Fin 3) : (finProdFinEquiv p).val = 3 * p.1.val + p.2.val := Nat.add_comm _ _
  have key (h : ℕ → M) : (∑ j : Fin 4, ∑ s : Fin 3, h (3 * j.val + s.val)) = ∑ n : Fin 12, h n.val := by
    rw [← Equiv.sum_comp (finProdFinEquiv (m := 4) (n := 3)) (fun n : Fin 12 => h n.val), Fintype.sum_prod_type]
    exact Finset.sum_congr rfl fun j _ => Finset.sum_congr rfl fun s _ => by rw [hn]
  rw [key (fun n => if n < 11 then g n else 0), key (fun n => if 0 < n then g (n - 1) else 0),
    Fin.sum_univ_castSucc (n := 11), Fin.sum_univ_succ (n := 11), if_neg (by decide), if_neg (by decide), add_zero, zero_add]
  refine Finset.sum_congr rfl fun i _ => ?_
  rw [if_pos (show (Fin.castSucc i).val < 11 from i.isLt), if_pos (show 0 < (Fin.succ i).val from Nat.succ_pos _)]
  rfl

theorem sw {D M : Type} [Fintype D] [AddCommMonoid M] (u u' : D → Fin 4 → Fin 3 → M) (e : ∀ j s, ∑ c, u c j s = ∑ c, u' c j s) :
    ∑ c, (∑ j, ∑ s, u c j s) = ∑ c, ∑ j, ∑ s, u' c j s := by
  have one (u : D → Fin 4 → Fin 3 → M) : ∑ c, (∑ j, ∑ s, u c j s) = ∑ j, ∑ s, ∑ c, u c j s := by
    rw [Finset.sum_comm]
    exact Finset.sum_congr rfl fun j _ => Finset.sum_comm
  rw [one, one]
  exact Finset.sum_congr rfl fun j _ => Finset.sum_congr rfl fun s _ => e j s

/-- Sums over devices and points, one part at a time. -/
theorem swap3 {D M : Type} [Fintype D] [AddCommMonoid M] {B B' : D → M} {f f' h h' k k' : D → Fin 4 → Fin 3 → M}
    (e0 : ∑ c, B c = ∑ c, B' c) (e1 : ∀ j s, ∑ c, f c j s = ∑ c, f' c j s)
    (e2 : ∑ c, (∑ j, ∑ s, h c j s) = ∑ c, ∑ j, ∑ s, h' c j s) (e3 : ∀ j s, ∑ c, k c j s = ∑ c, k' c j s) :
    (∑ c, (B c + ∑ j, ((∑ s, (f c j s + h c j s)) + ∑ s, k c j s))) = ∑ c, (B' c + ∑ j, ((∑ s, (f' c j s + h' c j s)) + ∑ s, k' c j s)) := by
  simp only [Finset.sum_add_distrib]
  rw [e0, sw f f' e1, e2, sw k k' e3]

theorem balance : ∑ c, tallyL (frontOwe c 0) = ∑ c, tallyL (getAll c) := by
  rw [Finset.sum_congr rfl fun c _ => owe_sum c, Finset.sum_congr rfl fun c _ => get_sum c]
  refine swap3 (sum_two fun d => sum_pb d fun c => Pay.tally (barCell c, 1, 1))
    (fun j s => sum_two fun d => sum_nb d fun c => Pay.tally (getX c (j, s, false, d))) ?_
    (fun j s => sum_two fun d => sum_nb d fun c => Pay.tally (getX c (j, s, true, d)))
  rw [← Finset.sum_congr rfl fun c _ => shift_sum fun n => two fun d => Pay.tally (getC c n d)]
  refine sw _ _ fun j s => ?_
  show (∑ c, if 3 * j.val + s.val < 11 then two (fun d => Pay.tally (payC c (3 * j.val + s.val) d)) else 0) = _
  split
  · exact sum_two fun d => sum_pb d fun c => Pay.tally (getC c (3 * j.val + s.val) d)
  · rfl

/-! ## The credit of a device -/

theorem getAll_own (c : Dev nD) : ∀ x ∈ getAll c, x.1.1 = (c : Thread nD τ) := by
  intro x hx
  unfold getAll at hx
  rcases List.mem_append.mp hx with hx | hx
  · rcases List.mem_cons.mp hx with rfl | hx
    · rfl
    · rcases List.mem_cons.mp hx with rfl | hx
      · rfl
      · cases hx
  obtain ⟨j, -, hx⟩ := List.mem_flatMap.mp hx
  rcases List.mem_append.mp hx with hx | hx
  · obtain ⟨s, -, hx⟩ := List.mem_flatMap.mp hx
    unfold getRS at hx
    split at hx
    · simp only [List.cons_append, List.nil_append, List.mem_cons, List.not_mem_nil, or_false] at hx
      rcases hx with rfl | rfl | rfl | rfl <;> rfl
    · simp only [List.cons_append, List.nil_append, List.mem_cons, List.not_mem_nil, or_false] at hx
      rcases hx with rfl | rfl <;> rfl
  · obtain ⟨s, -, hx⟩ := List.mem_flatMap.mp hx
    unfold getAG at hx
    simp only [List.mem_cons, List.not_mem_nil, or_false] at hx
    rcases hx with rfl | rfl <;> rfl

theorem launch_cred (c : Dev nD) : (Pipeline.launchCred (fun d => tallyL (frontOwe d 0)) c : sProp 𝕄) = cred (tallyL (getAll c)) :=
  Pipeline.launchCred_of_sum (fun d => tallyL (frontOwe d 0)) (fun d => tallyL (getAll d)) balance
    (fun d g hg => by
      obtain ⟨i, hi⟩ := DFunLike.ne_iff.mp hg
      obtain ⟨x, hx, rfl, -⟩ := TalkSites.tallyL_pos (Nat.pos_of_ne_zero hi)
      exact getAll_own d x hx) c

theorem cred_two (a b : CellTallies nD τ sig ℕ) : (cred (a + b) : sProp 𝕄) = iprop(cred a ∗ cred b) :=
  BI.Entails.antisymm (cred_add _ _).1 (cred_add _ _).2

/-- The credit of one transfer, and of the credit that step `n` waits for. -/
def cX (c : Dev nD) (x : X) : sProp 𝕄 := cred (tallyAt (xCell true x c) (iX x) N)
def cC (c : Dev nD) (n : ℕ) (d : Bool) : sProp 𝕄 := if 0 < n then cred (tallyAt (crCell d c) (iC (n - 1)) 1) else iprop(emp)

/-- The credit of a device, transfer by transfer. -/
theorem creds (c : Dev nD) : (Pipeline.launchCred (fun d => tallyL (frontOwe d 0)) c : sProp 𝕄)
    ⊢ iprop(cred (tallyAt (barCell c) 1 2) ∗ bigSep Finset.univ fun j : Fin 4 =>
        iprop((bigSep Finset.univ fun s : Fin 3 => iprop((cX c (j, s, false, true) ∗ cX c (j, s, false, false)) ∗ (cC c (3 * j.val + s.val) true ∗ cC c (3 * j.val + s.val) false)))
          ∗ bigSep Finset.univ fun t : Fin 3 => iprop(cX c (j, t, true, true) ∗ cX c (j, t, true, false)))) := by
  rw [launch_cred, get_sum, cred_two, Pipeline.cred_finsetSum]
  refine BIClass.sep_mono (Entails.of_eq ?_) (bigSep_mono fun j _ => ?_)
  · unfold two
    exact congrArg cred (tallyAt_add (barCell c) 1 1 1)
  rw [cred_two, Pipeline.cred_finsetSum, Pipeline.cred_finsetSum]
  refine BIClass.sep_mono (P := bigSep Finset.univ _) (Q := bigSep Finset.univ _) (bigSep_mono fun s _ => ?_) (bigSep_mono fun t _ => ?_)
  · rw [cred_two]
    refine BIClass.sep_mono (Entails.of_eq (cred_two _ _)) ?_
    unfold cC
    split
    · exact Entails.of_eq (cred_two _ _)
    · rw [cred_zero]
      iintro -
      isplitl []
      · iempintro
      · iempintro
  · exact Entails.of_eq (cred_two _ _)

end Cert.Ring

end
-- ==== Proof.Share.lean ====
/- A device's ghost state sorted by grid point, and what the points leave gathered up again. -/
module

public import proofs.«01_k».proof.Proof.Fund
public import proofs.«01_k».proof.Proof.Due

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

theorem sep_swap (A B : sProp 𝕄) : iprop(A ∗ B) = iprop(B ∗ A) := by
  have h (A B : sProp 𝕄) : iprop(A ∗ B) ⊢ iprop(B ∗ A) := by iintro ⟨H1, H2⟩; isplitl [H2] <;> iassumption
  exact BI.Entails.antisymm (h A B) (h B A)
theorem sep_swap_right (A B C : sProp 𝕄) : iprop((A ∗ B) ∗ C) = iprop((A ∗ C) ∗ B) := by
  have h (A B C : sProp 𝕄) : iprop((A ∗ B) ∗ C) ⊢ iprop((A ∗ C) ∗ B) := by
    iintro ⟨⟨H1, H2⟩, H3⟩
    isplitl [H1 H3]; · isplitl [H1] <;> iassumption
    iexact H2
  exact BI.Entails.antisymm (h A B C) (h A C B)

/-! ## Transfers by grid point -/

theorem byX (Φ : X → sProp 𝕄) : bigSep Finset.univ Φ = bigSep Finset.univ fun j : Fin 4 =>
    iprop((bigSep Finset.univ fun s : Fin 3 => iprop(Φ (j, s, false, true) ∗ Φ (j, s, false, false)))
      ∗ bigSep Finset.univ fun t : Fin 3 => iprop(Φ (j, t, true, true) ∗ Φ (j, t, true, false))) := by
  rw [bigSep_univ_prod]
  refine bigSep_congr fun j _ => ?_
  rw [bigSep_univ_prod (fun b : Fin 3 × Bool × Bool => Φ (j, b)), ← bigSep_sep']
  refine bigSep_congr fun s _ => ?_
  rw [bigSep_univ_prod (fun b : Bool × Bool => Φ (j, s, b)), pair_eq, pair_eq, pair_eq]
  exact sep_swap _ _

theorem three (Φ : Fin 3 → sProp 𝕄) : bigSep Finset.univ Φ = iprop(Φ 0 ∗ Φ 1 ∗ Φ 2) := bigSep_univ_eq_bigSepL [0, 1, 2] (by decide) (by decide) Φ

theorem hops_eq (c : Dev nD) (j : Fin 4) : (bigSep Finset.univ fun t : Fin 3 => iprop(kitX c (j, t, true, true) ∗ kitX c (j, t, true, false)) : sProp 𝕄) ⊢ hopKits c j := by
  rw [three]; unfold hopKits
  iintro ⟨⟨H1, H2⟩, ⟨H3, H4⟩, H5, H6⟩
  iclose

theorem hops_back (c : Dev nD) (j : Fin 4) : hopDones c j ⊢ (bigSep Finset.univ fun t : Fin 3 => iprop(doneX c (j, t, true, true) ∗ doneX c (j, t, true, false)) : sProp 𝕄) := by
  rw [three]; unfold hopDones
  iintro ⟨H1, H2, H3, H4, H5, H6⟩
  isplitl [H1 H2]; · isplitl [H1] <;> iassumption
  isplitl [H3 H4]; · isplitl [H3] <;> iassumption
  isplitl [H5] <;> iassumption

theorem steps_start (c : Dev nD) (j : Fin 4) : (bigSep Finset.univ fun s : Fin 3 => stepKit c j s : sProp 𝕄) ⊢ stepsAt c j 0 := by
  unfold stepsAt
  exact Entails.of_eq (bigSep_congr fun s _ => by rw [if_neg (Nat.not_lt_zero _)])
theorem steps_end (c : Dev nD) (j : Fin 4) : stepsAt c j 3 ⊢ (bigSep Finset.univ fun s : Fin 3 => stepDone c j s : sProp 𝕄) := by
  unfold stepsAt
  exact Entails.of_eq (bigSep_congr fun s _ => by rw [if_pos s.isLt])

/-! ## The rights of every step -/

/-- A step's credit token; the last step has none to use. -/
abbrev tokC (c : Dev nD) (p : Fin 4 × Fin 3) (d : Bool) : sProp 𝕄 := dutyTok ER (crCell d (pb d c)) (num p) true

theorem kitC_of (c : Dev nD) (j : Fin 4) (s : Fin 3) (d : Bool) : iprop(tokC c (j, s) d ∗ cC c (3 * j.val + s.val) d) ⊢ (kitC c (3 * j.val + s.val) d : sProp 𝕄) := by
  unfold kitC cC
  refine BIClass.sep_mono ?_ .rfl
  split
  · exact .rfl
  · iintro -; iempintro

/-- Everything the transfers and credits take, point by point. -/
theorem kits (c : Dev nD) :
    iprop((bigSep Finset.univ fun x : X => atPos ER (xCell false x c) 0 ∅ 0) ∗ (bigSep Finset.univ fun x : X => atPos ER (xCell true x c) 0 ∅ 0)
        ∗ (bigSep Finset.univ fun x : X => dutyTok ER (xCell false x c) 0 true) ∗ (bigSep Finset.univ fun x : X => dutyTok ER (xCell true x (nb x.2.2.2 c)) 0 true)
        ∗ (bigSep Finset.univ fun r : (Fin 4 × Fin 3) × Bool => dutyTok ER (crCell r.2 (pb r.2 c)) (num r.1) true)
        ∗ bigSep Finset.univ fun j : Fin 4 =>
          iprop((bigSep Finset.univ fun s : Fin 3 => iprop((cX c (j, s, false, true) ∗ cX c (j, s, false, false)) ∗ (cC c (3 * j.val + s.val) true ∗ cC c (3 * j.val + s.val) false)))
            ∗ bigSep Finset.univ fun t : Fin 3 => iprop(cX c (j, t, true, true) ∗ cX c (j, t, true, false))))
      ⊢ (bigSep Finset.univ fun j : Fin 4 => iprop(stepsAt c j 0 ∗ hopKits c j) : sProp 𝕄) := by
  have hk : iprop((bigSep Finset.univ fun x : X => atPos ER (xCell false x c) 0 ∅ 0) ∗ (bigSep Finset.univ fun x : X => atPos ER (xCell true x c) 0 ∅ 0)
        ∗ (bigSep Finset.univ fun x : X => dutyTok ER (xCell false x c) 0 true) ∗ (bigSep Finset.univ fun x : X => dutyTok ER (xCell true x (nb x.2.2.2 c)) 0 true)
        ∗ (bigSep Finset.univ fun x : X => cX c x)) = (bigSep Finset.univ fun x : X => kitX c x : sProp 𝕄) := by
    unfold kitX cX; rw [bigSep_sep', bigSep_sep', bigSep_sep', bigSep_sep']
  have hc : (bigSep Finset.univ fun r : (Fin 4 × Fin 3) × Bool => dutyTok ER (crCell r.2 (pb r.2 c)) (num r.1) true : sProp 𝕄)
      = bigSep Finset.univ fun j : Fin 4 => bigSep Finset.univ fun s : Fin 3 => iprop(tokC c (j, s) true ∗ tokC c (j, s) false) := by
    rw [bigSep_univ_prod, bigSep_univ_prod]
    exact bigSep_congr fun j _ => bigSep_congr fun s _ => pair_eq _
  have hj : (bigSep Finset.univ fun j : Fin 4 =>
          iprop((bigSep Finset.univ fun s : Fin 3 => iprop((cX c (j, s, false, true) ∗ cX c (j, s, false, false)) ∗ (cC c (3 * j.val + s.val) true ∗ cC c (3 * j.val + s.val) false)))
            ∗ bigSep Finset.univ fun t : Fin 3 => iprop(cX c (j, t, true, true) ∗ cX c (j, t, true, false))) : sProp 𝕄)
      = iprop((bigSep Finset.univ fun x : X => cX c x)
        ∗ bigSep Finset.univ fun j : Fin 4 => bigSep Finset.univ fun s : Fin 3 => iprop(cC c (3 * j.val + s.val) true ∗ cC c (3 * j.val + s.val) false)) := by
    rw [byX (fun x => cX c x), ← bigSep_sep']
    refine bigSep_congr fun j _ => ?_
    rw [bigSep_sep']
    exact sep_swap_right _ _ _
  have hs (j : Fin 4) (s : Fin 3) : iprop((kitX c (j, s, false, true) ∗ kitX c (j, s, false, false)) ∗ (tokC c (j, s) true ∗ tokC c (j, s) false)
      ∗ (cC c (3 * j.val + s.val) true ∗ cC c (3 * j.val + s.val) false)) ⊢ (stepKit c j s : sProp 𝕄) := by
    unfold stepKit
    iintro ⟨⟨H1, H2⟩, ⟨H3, H4⟩, H5, H6⟩
    isplitl [H1]; · iexact H1
    isplitl [H2]; · iexact H2
    isplitl [H3 H5]
    · iapply (kitC_of c j s true); isplitl [H3] <;> iassumption
    · iapply (kitC_of c j s false); isplitl [H4] <;> iassumption
  have hall : iprop((bigSep Finset.univ fun x : X => kitX c x)
        ∗ (bigSep Finset.univ fun j : Fin 4 => bigSep Finset.univ fun s : Fin 3 => iprop(tokC c (j, s) true ∗ tokC c (j, s) false))
        ∗ bigSep Finset.univ fun j : Fin 4 => bigSep Finset.univ fun s : Fin 3 => iprop(cC c (3 * j.val + s.val) true ∗ cC c (3 * j.val + s.val) false))
      ⊢ (bigSep Finset.univ fun j : Fin 4 => iprop(stepsAt c j 0 ∗ hopKits c j) : sProp 𝕄) := by
    rw [byX (fun x => kitX c x), ← bigSep_sep', ← bigSep_sep']
    have h1 (j : Fin 4) : iprop(((bigSep Finset.univ fun s : Fin 3 => iprop(kitX c (j, s, false, true) ∗ kitX c (j, s, false, false)))
          ∗ bigSep Finset.univ fun t : Fin 3 => iprop(kitX c (j, t, true, true) ∗ kitX c (j, t, true, false)))
        ∗ (bigSep Finset.univ fun s : Fin 3 => iprop(tokC c (j, s) true ∗ tokC c (j, s) false))
        ∗ bigSep Finset.univ fun s : Fin 3 => iprop(cC c (3 * j.val + s.val) true ∗ cC c (3 * j.val + s.val) false))
        ⊢ (iprop(stepsAt c j 0 ∗ hopKits c j) : sProp 𝕄) := by
      have h2 : iprop((bigSep Finset.univ fun s : Fin 3 => iprop(kitX c (j, s, false, true) ∗ kitX c (j, s, false, false)))
        ∗ (bigSep Finset.univ fun s : Fin 3 => iprop(tokC c (j, s) true ∗ tokC c (j, s) false))
        ∗ bigSep Finset.univ fun s : Fin 3 => iprop(cC c (3 * j.val + s.val) true ∗ cC c (3 * j.val + s.val) false)) ⊢ (stepsAt c j 0 : sProp 𝕄) := by
        rw [← bigSep_sep', ← bigSep_sep']
        exact (bigSep_mono fun s _ => hs j s).trans (steps_start c j)
      iintro ⟨⟨H1, H2⟩, H3, H4⟩
      isplitl [H1 H3 H4]
      · iapply h2
        isplitl [H1]; · iexact H1
        isplitl [H3] <;> iassumption
      · iapply (hops_eq c j) $$ H2
    exact bigSep_mono fun j _ => h1 j
  rw [hc, hj]
  iintro ⟨H1, H2, H3, H4, H5, H6, H7⟩
  ihave Hk := (Entails.of_eq hk) $$ [H1 H2 H3 H4 H6]
  · isplitl [H1]; · iexact H1
    isplitl [H2]; · iexact H2
    isplitl [H3]; · iexact H3
    isplitl [H4]; · iexact H4
    iexact H6
  iapply hall
  isplitl [Hk]; · iexact Hk
  isplitl [H5] <;> iassumption

/-- All transfers done, every transfer cell reads zero. -/
theorem dones (c : Dev nD) : (bigSep Finset.univ fun j : Fin 4 => iprop(stepsAt c j 3 ∗ hopDones c j) : sProp 𝕄) ⊢ zeros c := by
  have h1 (j : Fin 4) : (iprop(stepsAt c j 3 ∗ hopDones c j) : sProp 𝕄)
      ⊢ iprop((bigSep Finset.univ fun s : Fin 3 => iprop(doneX c (j, s, false, true) ∗ doneX c (j, s, false, false)))
        ∗ bigSep Finset.univ fun t : Fin 3 => iprop(doneX c (j, t, true, true) ∗ doneX c (j, t, true, false))) :=
    BIClass.sep_mono (steps_end c j) (hops_back c j)
  have h2 : (bigSep Finset.univ fun x : X => doneX c x : sProp 𝕄) ⊢ zeros c := by
    unfold zeros doneX
    rw [bigSep_univ_prod (α := Bool) (β := X), pair_eq, bigSep_sep']
    iintro ⟨H1, H2⟩
    isplitl [H2] <;> iassumption
  refine BIBase.Entails.trans (bigSep_mono fun j _ => h1 j) ?_
  rw [← byX (fun x => doneX c x)]
  exact h2

end Cert.Ring

end
-- ==== Proof.Slots.lean ====
/- The scratch buffers as the launch deals them: whole, at some contents; the gathered slots cut out of theirs. -/
module

public import proofs.«01_k».proof.Proof.Point

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

/-! ## Whole buffers -/

theorem ownE_whole (c : Dev nD) (b : Ref sig .tc) :
    (ownE c (Memref.whole b) : sProp 𝕄) = iprop(∃ f : Buf (Elt F) ((c : Thread nD τ).loc b), ((c : Thread nD τ).loc b) ↦{fullShare} f) := by
  unfold ownE own
  exact congrArg _ (funext fun f => owns_whole (c : Thread nD τ) b fullShare f)

/-! ## A buffer and its slots -/

/-- Ownership at some contents is the points-to at some contents. -/
theorem ownE_pts (c : Dev nD) {sp : Space} {sh : Shape} {e : EltTy} (M : Memref sig .tc sp sh e) :
    (ownE c M : sProp 𝕄) = iprop(∃ g : Buf (Elt F) (M.view.loc (c : Thread nD τ)), M.view.loc (c : Thread nD τ) ↦[M.view.set]{fullShare} g) := by
  have h1 : ownE c M ⊢ iprop(∃ g : Buf (Elt F) (M.view.loc (c : Thread nD τ)), M.view.loc (c : Thread nD τ) ↦[M.view.set]{fullShare} g) := by
    unfold ownE own owns
    iintro ⟨%Y, %g, -, H⟩
    iexists g; iexact H
  have h2 : iprop(∃ g : Buf (Elt F) (M.view.loc (c : Thread nD τ)), M.view.loc (c : Thread nD τ) ↦[M.view.set]{fullShare} g) ⊢ ownE c M := by
    unfold ownE
    iintro ⟨%g, H⟩
    iexists (M.view.read (Elt F) g)
    iapply (owns_intro (c : Thread nD τ) M fullShare g) $$ H
  exact BI.Entails.antisymm h1 h2

/-- A slot is its slice, seen with one axis fewer. -/
theorem ownE_slot (c : Dev nD) (d : Bool) (t : Fin 3) : (ownE c (agM d t) : sProp 𝕄) = ownE c ((agW d).slice (agR t) (fun _ => rfl)) := by
  rw [ownE_pts, ownE_pts]
  have h : (agM d t).view.set = ((agW d).slice (agR t) (fun _ => rfl)).view.set := View.set_reshape _ _
  rw [h]

/-- Contents given slice by slice of a disjoint family are those of one buffer. -/
theorem exists_glue {sh : Shape} {e : EltTy} {n : ℕ} (r : Fin n → Rect sh) (hd : ∀ t t', t ≠ t' → Disjoint (r t).set (r t').set)
    (Y : (t : Fin n) → (r t).shape.Idx → Elt F e) : ∃ Z : sh.Idx → Elt F e, ∀ t j, Z ((r t).emb j) = Y t j := by
  have hinj : Function.Injective (fun p : (t : Fin n) × (r t).shape.Idx => (r p.1).emb p.2) := by
    rintro ⟨t, j⟩ ⟨t', j'⟩ h
    have hm (t : Fin n) (j : (r t).shape.Idx) : (r t).emb j ∈ (r t).set := by rw [← Rect.map_emb_univ]; exact Finset.mem_map_of_mem _ (Finset.mem_univ j)
    have h' : (r t).emb j = (r t').emb j' := h
    by_cases ht : t = t'
    · subst ht; rw [(r t).emb.injective h']
    · exact absurd (h' ▸ hm t' j') (Finset.disjoint_left.mp (hd t t' ht) (hm t j))
  exact ⟨Function.extend (fun p : (t : Fin n) × (r t).shape.Idx => (r p.1).emb p.2) (fun p => Y p.1 p.2) (fun _ => Classical.arbitrary _),
    fun t j => hinj.extend_apply (fun p => Y p.1 p.2) _ ⟨t, j⟩⟩

theorem mem_ag (t : Fin 3) (i : S3x512x2048.Idx) : Iff (i ∈ (agR t).set) ((i 0).val = t.val) := by
  rw [Rect.mem_set_unit]
  have h1 : (i 1).val < 512 := (i 1).isLt
  have h2 : (i 2).val < 2048 := (i 2).isLt
  constructor
  · intro h
    have := h 0
    change t.val ≤ (i 0).val ∧ (i 0).val < t.val + 1 at this
    omega
  · intro h b
    match b with
    | ⟨0, _⟩ => show t.val ≤ (i 0).val ∧ (i 0).val < t.val + 1; omega
    | ⟨1, _⟩ => exact ⟨Nat.zero_le _, show (i 1).val < 0 + 512 by omega⟩
    | ⟨2, _⟩ => exact ⟨Nat.zero_le _, show (i 2).val < 0 + 2048 by omega⟩

theorem ag_disjoint (t t' : Fin 3) (h : t ≠ t') : Disjoint (agR t).set (agR t').set :=
  Finset.disjoint_left.mpr fun i hi hi' => h (Fin.ext (((mem_ag t i).mp hi).symm.trans ((mem_ag t' i).mp hi')))
theorem ag_cover : (Finset.univ : Finset (Fin 3)).biUnion (fun t => (agR t).set) = Finset.univ :=
  Finset.eq_univ_iff_forall.mpr fun i => Finset.mem_biUnion.mpr ⟨⟨(i 0).val, (i 0).isLt⟩, Finset.mem_univ _, (mem_ag _ i).mpr rfl⟩

theorem fin3_eq (Φ : Fin 3 → sProp 𝕄) : bigSep Finset.univ Φ = iprop(Φ 0 ∗ Φ 1 ∗ Φ 2) :=
  bigSep_univ_eq_bigSepL [0, 1, 2] (by decide) (by decide) Φ

theorem slots_split (c : Dev nD) (d : Bool) : ownE (F := F) c (agW d) ⊢ agAll c d := by
  have h (Y : S3x512x2048.Idx → Elt F .bf16) : own c (agW d) fullShare Y ⊢ bigSep Finset.univ fun t : Fin 3 => ownE c (agM d t) :=
    (owns_rects (c : Thread nD τ) (agW d) fullShare agR (fun _ _ => rfl) ag_disjoint ag_cover Y).trans
      (bigSep_mono fun t _ => (own_E c ((agW d).slice (agR t) (fun _ => rfl)) _).trans (Entails.of_eq (ownE_slot c d t).symm))
  unfold ownE agAll
  iintro ⟨%Y, H⟩
  ihave H := (h Y) $$ H
  iapply (Entails.of_eq (fin3_eq fun t => ownE c (agM d t))) $$ H

theorem slots_join (c : Dev nD) (d : Bool) : agAll (F := F) c d ⊢ ownE c (agW d) := by
  have h (Y : (t : Fin 3) → S1x512x2048.Idx → Elt F .bf16) :
      (bigSep Finset.univ fun t : Fin 3 => own c ((agW d).slice (agR t) (fun _ => rfl)) fullShare (Y t)) ⊢ ownE c (agW d) := by
    obtain ⟨Z, hZ⟩ := exists_glue agR ag_disjoint Y
    have e : (fun t : Fin 3 => own c ((agW d).slice (agR t) (fun _ => rfl)) fullShare (Y t))
        = fun t => own c ((agW d).slice (agR t) (fun _ => rfl)) fullShare (fun j => Z ((agR t).emb j)) :=
      funext fun t => congrArg (own c ((agW d).slice (agR t) (fun _ => rfl)) fullShare) (funext fun j => (hZ t j).symm)
    rw [e]
    exact (owns_of_rects (c : Thread nD τ) (agW d) fullShare agR (fun _ _ => rfl) ag_disjoint ag_cover Z).trans (own_E c (agW d) Z)
  unfold agAll
  rw [ownE_slot, ownE_slot, ownE_slot]
  generalize ownE c (agW d) = R at h ⊢
  unfold ownE
  iintro ⟨⟨%Y0, H0⟩, ⟨%Y1, H1⟩, ⟨%Y2, H2⟩⟩
  iapply ((Entails.of_eq (fin3_eq fun t => own c ((agW d).slice (agR t) (fun _ => rfl)) fullShare ((![Y0, Y1, Y2] : Fin 3 → _) t)).symm).trans (h ![Y0, Y1, Y2]))
  isplitl [H0]; · iexact H0
  isplitl [H1]; · iexact H1
  iexact H2

/-! ## The scoped buffers of the launch -/

/-- All scratch buffers of a device. -/
def scratch (c : Dev nD) : sProp 𝕄 :=
  iprop(ownE c wV ∗ ownE c xV ∗ ownE c (sendM true) ∗ ownE c (recvM true) ∗ ownE c (sendM false) ∗ ownE c (recvM false)
    ∗ ownE c (tmpM true) ∗ ownE c (tmpM false) ∗ agAll c true ∗ agAll c false)

theorem scratch_of (c : Dev nD) : Pipeline.scopedRest (Ix := ℕ) (Name := ℕ) (U := UU) (Lvl := ℕ) (Val := Elt F) (cfg0.spec) c ⊢ scratch c := by
  rw [scopedRest0_eq]
  unfold scratch
  iintro ⟨H0, H1, H2, H3, H4, H5, H6, H7, H8, H9⟩
  isplitl [H0]; · iapply (Entails.of_eq (ownE_whole c cc0_scratch0).symm) $$ H0
  isplitl [H1]; · iapply (Entails.of_eq (ownE_whole c cc0_scratch1).symm) $$ H1
  isplitl [H2]; · iapply (Entails.of_eq (ownE_whole c cc0_scratch2).symm) $$ H2
  isplitl [H3]; · iapply (Entails.of_eq (ownE_whole c cc0_scratch3).symm) $$ H3
  isplitl [H4]; · iapply (Entails.of_eq (ownE_whole c cc0_scratch4).symm) $$ H4
  isplitl [H5]; · iapply (Entails.of_eq (ownE_whole c cc0_scratch5).symm) $$ H5
  isplitl [H6]; · iapply (Entails.of_eq (ownE_whole c cc0_scratch6).symm) $$ H6
  isplitl [H7]; · iapply (Entails.of_eq (ownE_whole c cc0_scratch7).symm) $$ H7
  isplitl [H8]; · iapply ((Entails.of_eq (ownE_whole c cc0_scratch8).symm).trans (slots_split c true)) $$ H8
  iapply ((Entails.of_eq (ownE_whole c cc0_scratch9).symm).trans (slots_split c false)) $$ H9

theorem scratch_to (c : Dev nD) : scratch c ⊢ Pipeline.scopedRest (Ix := ℕ) (Name := ℕ) (U := UU) (Lvl := ℕ) (Val := Elt F) (cfg0.spec) c := by
  rw [scopedRest0_eq]
  unfold scratch
  iintro ⟨H0, H1, H2, H3, H4, H5, H6, H7, H8, H9⟩
  isplitl [H0]; · iapply (Entails.of_eq (ownE_whole c cc0_scratch0)) $$ H0
  isplitl [H1]; · iapply (Entails.of_eq (ownE_whole c cc0_scratch1)) $$ H1
  isplitl [H2]; · iapply (Entails.of_eq (ownE_whole c cc0_scratch2)) $$ H2
  isplitl [H3]; · iapply (Entails.of_eq (ownE_whole c cc0_scratch3)) $$ H3
  isplitl [H4]; · iapply (Entails.of_eq (ownE_whole c cc0_scratch4)) $$ H4
  isplitl [H5]; · iapply (Entails.of_eq (ownE_whole c cc0_scratch5)) $$ H5
  isplitl [H6]; · iapply (Entails.of_eq (ownE_whole c cc0_scratch6)) $$ H6
  isplitl [H7]; · iapply (Entails.of_eq (ownE_whole c cc0_scratch7)) $$ H7
  isplitl [H8]; · iapply ((slots_join c true).trans (Entails.of_eq (ownE_whole c cc0_scratch8))) $$ H8
  iapply ((slots_join c false).trans (Entails.of_eq (ownE_whole c cc0_scratch9))) $$ H9

end Cert.Ring

end
-- ==== Proof.Tiles.lean ====
/- The result array as its 32 tiles: one per block of rows, grid point and half of the columns. -/
module

public import proofs.«01_k».proof.Proof.Point

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

/-! ## Which tile an element lies in -/

/-- A tile: its block, grid point and direction. -/
abbrev TI : Type := Dev nD × Fin 4 × Bool

theorem mem_o (t : TI) (i : S8192x4096.Idx) : Iff (i ∈ (oRect t.1 t.2.1 t.2.2).set)
    ((2048 * t.1.val + 512 * t.2.1.val ≤ (i 0).val ∧ (i 0).val < 2048 * t.1.val + 512 * t.2.1.val + 512)
      ∧ (coff t.2.2 ≤ (i 1).val ∧ (i 1).val < coff t.2.2 + 2048)) := by
  rw [Rect.mem_set_unit, Fin.forall_fin_two]
  exact Iff.rfl

theorem row_lt (i : S8192x4096.Idx) : (i 0).val < 8192 := (i 0).isLt
theorem col_lt (i : S8192x4096.Idx) : (i 1).val < 4096 := (i 1).isLt

set_option backward.proofsInPublic true in
/-- The tile of an element, and its place there. -/
def tileOf (i : S8192x4096.Idx) : TI :=
  (⟨(i 0).val / 2048, by have := row_lt i; show _ < 4; omega⟩, ⟨(i 0).val % 2048 / 512, by omega⟩, decide ((i 1).val < 2048))
set_option backward.proofsInPublic true in
def inTile (i : S8192x4096.Idx) : S512x2048.Idx
  | ⟨0, _⟩ => ⟨(i 0).val % 512, Nat.mod_lt _ (by decide)⟩
  | ⟨1, _⟩ => ⟨(i 1).val % 2048, Nat.mod_lt _ (by decide)⟩

theorem tile_eq {t : TI} {i : S8192x4096.Idx} (h : i ∈ (oRect t.1 t.2.1 t.2.2).set) : tileOf i = t := by
  obtain ⟨⟨h1, h2⟩, h3, h4⟩ := (mem_o t i).mp h
  obtain ⟨a, j, d⟩ := t
  have hj := j.isLt
  refine Prod.ext (Fin.ext ?_) (Prod.ext (Fin.ext ?_) ?_)
  · show (i 0).val / 2048 = a.val; simp only at h1 h2; omega
  · show (i 0).val % 2048 / 512 = j.val; simp only at h1 h2; omega
  · show decide ((i 1).val < 2048) = d
    cases d <;> simp only [coff, if_true, if_false, Bool.false_eq_true] at h3 h4
    · exact decide_eq_false (by omega)
    · exact decide_eq_true (by omega)

theorem mem_tile (i : S8192x4096.Idx) : i ∈ (oRect (tileOf i).1 (tileOf i).2.1 (tileOf i).2.2).set := by
  have := row_lt i; have := col_lt i
  refine (mem_o _ i).mpr ⟨⟨?_, ?_⟩, ?_⟩
  · show 2048 * ((i 0).val / 2048) + 512 * ((i 0).val % 2048 / 512) ≤ _; omega
  · show _ < 2048 * ((i 0).val / 2048) + 512 * ((i 0).val % 2048 / 512) + 512; omega
  · show coff (decide ((i 1).val < 2048)) ≤ _ ∧ _ < coff (decide ((i 1).val < 2048)) + 2048
    by_cases h : (i 1).val < 2048
    · rw [decide_eq_true h]; simp only [coff, if_true]; omega
    · rw [decide_eq_false h]; simp only [coff, if_false, Bool.false_eq_true]; omega

theorem o_disjoint (t t' : TI) (h : t ≠ t') : Disjoint (oRect t.1 t.2.1 t.2.2).set (oRect t'.1 t'.2.1 t'.2.2).set :=
  Finset.disjoint_left.mpr fun i hi hi' => h ((tile_eq hi).symm.trans (tile_eq hi'))
theorem o_cover : (Finset.univ : Finset TI).biUnion (fun t => (oRect t.1 t.2.1 t.2.2).set) = Finset.univ :=
  Finset.eq_univ_iff_forall.mpr fun i => Finset.mem_biUnion.mpr ⟨tileOf i, Finset.mem_univ _, mem_tile i⟩

/-- What the kernel leaves in the result, on every device. -/
def outAll : S8192x4096.Idx → Elt F .f32 := fun i => outV m (tileOf i).2.2 (tileOf i).2.1 (tileOf i).1 (inTile i)

theorem inTile_emb (t : TI) (y : S512x2048.Idx) : inTile ((oRect t.1 t.2.1 t.2.2).emb y) = y := by
  obtain ⟨a, j, d⟩ := t
  have h0 : (y 0).val < 512 := (y 0).isLt
  have h1 : (y 1).val < 2048 := (y 1).isLt
  funext b
  match b with
  | ⟨0, _⟩ =>
    refine Fin.ext ?_
    show (2048 * a.val + 512 * j.val + 1 * (y 0).val) % 512 = (y 0).val
    omega
  | ⟨1, _⟩ =>
    refine Fin.ext ?_
    show (coff d + 1 * (y 1).val) % 2048 = (y 1).val
    cases d <;> simp only [coff, if_true, if_false, Bool.false_eq_true] <;> omega

theorem outAll_emb (t : TI) (y : S512x2048.Idx) : outAll m ((oRect t.1 t.2.1 t.2.2).emb y) = outV m t.2.2 t.2.1 t.1 y := by
  have h : tileOf ((oRect t.1 t.2.1 t.2.2).emb y) = t := tile_eq (by rw [← Rect.map_emb_univ]; exact Finset.mem_map_of_mem _ (Finset.mem_univ y))
  unfold outAll
  rw [h, inTile_emb]

/-! ## The array taken apart and put together -/

theorem dev_around (c : Dev nD) (d : Bool) (Φ : Dev nD → sProp 𝕄) :
    bigSep Finset.univ Φ = iprop(Φ c ∗ Φ (chunk d c 0) ∗ Φ (chunk d c 1) ∗ Φ (chunk d c 2)) :=
  bigSep_univ_eq_bigSepL [c, chunk d c 0, chunk d c 1, chunk d c 2] (by revert c d; decide) (by revert c d; decide) Φ

theorem bool_two (Φ : Bool → sProp 𝕄) : bigSep Finset.univ Φ = iprop(Φ true ∗ Φ false) :=
  bigSep_univ_eq_bigSepL [true, false] (by decide) (by decide) Φ

/-- Over all tiles, arranged as device `c` comes to them. -/
theorem tiles_eq (c : Dev nD) (Φ : Dev nD → Fin 4 → Bool → sProp 𝕄) :
    bigSep Finset.univ (fun t : TI => Φ t.1 t.2.1 t.2.2)
      = bigSep Finset.univ fun j : Fin 4 => iprop((Φ c j true ∗ Φ (chunk true c 0) j true ∗ Φ (chunk true c 1) j true ∗ Φ (chunk true c 2) j true)
          ∗ (Φ c j false ∗ Φ (chunk false c 0) j false ∗ Φ (chunk false c 1) j false ∗ Φ (chunk false c 2) j false)) := by
  rw [bigSep_univ_equiv (Equiv.prodComm (Fin 4 × Bool) (Dev nD)) (fun t : TI => Φ t.1 t.2.1 t.2.2), bigSep_univ_prod, bigSep_univ_prod]
  refine bigSep_congr fun j _ => ?_
  rw [bool_two (F := F)]
  exact congrArg₂ (fun a b : sProp 𝕄 => iprop(a ∗ b)) (dev_around c true fun a => Φ a j true) (dev_around c false fun a => Φ a j false)

theorem blank_split (c : Dev nD) : ownE (F := F) c oH ⊢ bigSep Finset.univ fun j : Fin 4 => iprop(blank c j true ∗ blank c j false) := by
  unfold ownE blank
  iintro ⟨%Y, H⟩
  have h : own c oH fullShare Y ⊢ bigSep Finset.univ fun t : TI => ownE c (oM t.1 t.2.1 t.2.2) :=
    (owns_rects (c : Thread nD τ) oH fullShare (fun t : TI => oRect t.1 t.2.1 t.2.2) (fun _ _ => rfl) o_disjoint o_cover Y).trans
      (bigSep_mono fun t _ => own_E c (oM t.1 t.2.1 t.2.2) _)
  ihave H := h $$ H
  iapply (Entails.of_eq (tiles_eq c fun a j d => ownE c (oM a j d))) $$ H

theorem filled_join (c : Dev nD) : (bigSep Finset.univ fun j : Fin 4 => iprop(filled m c j true ∗ filled m c j false)) ⊢ own c oH fullShare (outAll m) := by
  have h (t : TI) : tile m c t.1 t.2.1 t.2.2 = own c (oM t.1 t.2.1 t.2.2) fullShare (fun y => outAll m ((oRect t.1 t.2.1 t.2.2).emb y)) := by
    unfold tile
    exact congrArg (own c (oM t.1 t.2.1 t.2.2) fullShare) (funext fun y => (outAll_emb m t y).symm)
  have h2 : (bigSep Finset.univ fun t : TI => own c (oM t.1 t.2.1 t.2.2) fullShare fun y => outAll m ((oRect t.1 t.2.1 t.2.2).emb y)) ⊢ own c oH fullShare (outAll m) :=
    owns_of_rects (c : Thread nD τ) oH fullShare (fun t : TI => oRect t.1 t.2.1 t.2.2) (fun _ _ => rfl) o_disjoint o_cover (outAll m)
  unfold filled
  iintro H
  ihave H := (Entails.of_eq (tiles_eq c fun a j d => tile m c a j d).symm) $$ H
  ihave H := (Entails.of_eq (bigSep_congr (s := Finset.univ) fun (t : TI) _ => h t)) $$ H
  iapply h2 $$ H

end Cert.Ring

end
-- ==== Proof.Phases.lean ====
/- A device from the launch to the end: before, between and after the grid points. -/
module

public import proofs.«01_k».proof.Proof.Share
public import proofs.«01_k».proof.Proof.Slots
public import proofs.«01_k».proof.Proof.Tiles

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ)

/-- Before grid point `n` (past the last: before the cells are closed). -/
def mids (c : Dev nD) (n : ℕ) : sProp 𝕄 :=
  iprop((∃ K, ctx m K) ∗ between m c n ∗ bigSep Finset.univ fun j : Fin 4 => if j.val < n then pointDone m c j else pointKit c j)

/-- The operands as they were, and the whole result. -/
def results (c : Dev nD) : sProp 𝕄 :=
  iprop(own c xH fullShare (m ((c : Thread nD τ).loc main_arg0)) ∗ own c wH fullShare (m ((c : Thread nD τ).loc main_arg1)) ∗ own c oH fullShare (outAll m))
/-- At the end. -/
def final (c : Dev nD) : sProp 𝕄 :=
  iprop((unscopedSems0 c ∗ results m c) ∗ Pipeline.ownSems0 (Ix := ℕ) (Name := ℕ) (U := UU) (Lvl := ℕ) (Val := Elt F) (τ := τ) osem c
    ∗ Pipeline.scopedRest (Ix := ℕ) (Name := ℕ) (U := UU) (Lvl := ℕ) (Val := Elt F) (cfg0.spec) c)

/-- From the launch: the ghost state, the credit, the levels, the operands, the result buffer. -/
def start (c : Dev nD) : sProp 𝕄 :=
  iprop(G' m c ∗ Pipeline.launchCred (fun d => tallyL (frontOwe d 0)) c ∗ levAts (SiteBlocks.L NL) SiteBlocks.lv
    ∗ own c xH fullShare (m ((c : Thread nD τ).loc main_arg0)) ∗ own c wH fullShare (m ((c : Thread nD τ).loc main_arg1)) ∗ ownE c oH)

/-- A device's positions, cell by cell. -/
theorem ats_eq (c : Dev nD) : (bigSep Finset.univ fun k : CK => atPos ER (kcell (c, k)) 0 ∅ 0 : sProp 𝕄)
    = iprop((atPos ER (barCell c) 0 ∅ 0 ∗ atPos ER (crCell true c) 0 ∅ 0 ∗ atPos ER (crCell false c) 0 ∅ 0)
      ∗ (bigSep Finset.univ fun x : X => atPos ER (xCell true x c) 0 ∅ 0) ∗ bigSep Finset.univ fun x : X => atPos ER (xCell false x c) 0 ∅ 0) := by
  rw [bigSep_univ_sum, option_eq, bigSep_univ_prod (α := Bool) (β := X), pair_eq]; rfl

theorem pointKits (c : Dev nD) :
    iprop((bigSep Finset.univ fun j : Fin 4 => iprop(stepsAt c j 0 ∗ hopKits c j)) ∗ bigSep Finset.univ fun j : Fin 4 => iprop(blank c j true ∗ blank c j false))
      ⊢ (bigSep Finset.univ fun j : Fin 4 => pointKit c j : sProp 𝕄) := by
  rw [← bigSep_sep']
  have h (j : Fin 4) : iprop((stepsAt c j 0 ∗ hopKits c j) ∗ blank c j true ∗ blank c j false) ⊢ (pointKit c j : sProp 𝕄) := by
    unfold pointKit
    iintro ⟨⟨H1, H2⟩, H3⟩
    isplitl [H1]; · iexact H1
    isplitl [H2] <;> iassumption
  exact bigSep_mono fun j _ => h j

theorem pointDones (c : Dev nD) : (bigSep Finset.univ fun j : Fin 4 => pointDone m c j)
    ⊢ iprop((bigSep Finset.univ fun j : Fin 4 => iprop(stepsAt c j 3 ∗ hopDones c j)) ∗ bigSep Finset.univ fun j : Fin 4 => iprop(filled m c j true ∗ filled m c j false)) := by
  rw [← bigSep_sep']
  have h (j : Fin 4) : pointDone m c j ⊢ iprop((stepsAt c j 3 ∗ hopDones c j) ∗ filled m c j true ∗ filled m c j false) := by
    unfold pointDone
    iintro ⟨H1, H2, H3⟩
    isplitl [H1 H2]; · isplitl [H1] <;> iassumption
    iexact H3
  exact bigSep_mono fun j _ => h j

theorem mids_start (c : Dev nD) : iprop(start m c ∗ scratch c) ⊢ mids m c 0 := by
  have e0 : (fun j : Fin 4 => if j.val < 0 then pointDone m c j else pointKit c j) = fun j => pointKit c j := funext fun j => if_neg (Nat.not_lt_zero _)
  have ef : frontSt m c 0 = startSt c := if_pos rfl
  unfold start mids scratch G' linear pays between
  rw [e0, ef, ats_eq, pair_eq]
  unfold startSt
  iintro ⟨⟨⟨%K, HK, ⟨⟨Hab, Hat, Haf⟩, Hxr, Hxs⟩, ⟨⟨Hbt, Hbf⟩, Hcr, Htr, Hts⟩, Hst, Hsf⟩, Hcred, Hlev, Hx, Hw, Ho⟩, ⟨HwV, HxV, Hs1, Hr1, Hs2, Hr2, Ht1, Ht2, Hg1, Hg2⟩⟩
  ihave ⟨Hcb, Hcp⟩ := (creds (F := F) c) $$ Hcred
  ihave Hkits := (kits (F := F) c) $$ [Hxs Hxr Hts Htr Hcr Hcp]
  · isplitl [Hxs]; · iexact Hxs
    isplitl [Hxr]; · iexact Hxr
    isplitl [Hts]; · iexact Hts
    isplitl [Htr]; · iexact Htr
    isplitl [Hcr]; · iexact Hcr
    iexact Hcp
  ihave Hbl := (blank_split (F := F) c) $$ Ho
  isplitl [HK Hlev]
  · iexists K
    unfold ctx
    isplitl [HK] <;> iassumption
  isplitr [Hkits Hbl]
  · isplitl [HwV Hr1 Hr2 Hg1 Hg2 Hbt Hbf Hcb Hab Hat Haf]
    · isplitl [HwV]; · iexact HwV
      isplitl [Hr1]; · iexact Hr1
      isplitl [Hr2]; · iexact Hr2
      isplitl [Hg1]; · iexact Hg1
      isplitl [Hg2]; · iexact Hg2
      isplitl [Hbt]; · iexact Hbt
      isplitl [Hbf]; · iexact Hbf
      isplitl [Hcb]; · iexact Hcb
      isplitl [Hab]; · iexact Hab
      isplitl [Hat]; · iexact Hat
      iexact Haf
    isplitl [Hw]; · iexact Hw
    isplitl [Hst]; · iexact Hst
    isplitl [Hsf]; · iexact Hsf
    isplitl [Ht1]; · iexact Ht1
    isplitl [Ht2]; · iexact Ht2
    isplitl [HxV]; · iexact HxV
    isplitl [Hx]; · iexact Hx
    isplitl [Hs1]; · iexact Hs1
    iexact Hs2
  · iapply (pointKits (F := F) c)
    isplitl [Hkits] <;> iassumption

/-- After the last point the landing buffer and the slots are the device's own again. -/
theorem crSt_end (c : Dev nD) (d : Bool) : crSt (F := F) c 4 0 d ⊢ iprop(atPos ER (crCell d c) NC ∅ 0 ∗ agAll c d ∗ ownE c (recvM d)) := by
  unfold crSt
  rw [if_pos (show 3 * 4 + 0 = 12 from rfl)]
  iintro ⟨Ha, -, -, Hg, Hr⟩
  isplitl [Ha]; · iexact Ha
  isplitl [Hg]
  · iapply (Entails.of_eq (agIf_pos (p := 0 < 4 ∧ 0 = 0) ⟨by omega, rfl⟩ c d)) $$ Hg
  iexact Hr

theorem close_cr (K : Dev nD × CK → ℕ) (c : Dev nD) (d : Bool) :
    iprop(ctx m K ∗ atPos ER (crCell d c) NC ∅ 0) ⊢ |={Set.univ}=> (semVal (crCell d c) 0 : sProp 𝕄) := by
  iintro ⟨#Hctx, Ha⟩
  ihave ⟨#Hi, -⟩ := (ctx_cr m K d c) $$ Hctx
  imod (Rounds.cell_close ER (ringRd m) (Set.mem_univ _) (fun h => h) (R := NC) (duties_cr_later m c d)) $$ [Ha] with Hz
  · isplitr; · iexact Hi
    iexact Ha
  imodintro
  iexact Hz

theorem mids_end (c : Dev nD) : mids m c 4 ⊢ |={Set.univ}=> final m c := by
  have e4 : (fun j : Fin 4 => if j.val < 4 then pointDone m c j else pointKit c j) = fun j => pointDone m c j := funext fun j => if_pos j.isLt
  have ef : frontSt m c 4 = readySt m c 4 := if_neg (by omega)
  unfold mids between
  rw [e4, ef]
  unfold readySt
  iintro ⟨⟨%K, #Hctx⟩, ⟨⟨HwV, Hb, Hct, Hcf⟩, Hw, Hst, Hsf, Ht1, Ht2, HxV, Hx, Hs1, Hs2⟩, Hd⟩
  ihave ⟨Hat, Hg1, Hr1⟩ := (crSt_end (F := F) c true) $$ Hct
  ihave ⟨Haf, Hg2, Hr2⟩ := (crSt_end (F := F) c false) $$ Hcf
  imod (close_cr m K c true) $$ [Hat] with Hzt
  · isplitr; · iexact Hctx
    iexact Hat
  imod (close_cr m K c false) $$ [Haf] with Hzf
  · isplitr; · iexact Hctx
    iexact Haf
  ihave ⟨Hd, Hf⟩ := (pointDones m c) $$ Hd
  ihave Hz := (dones (F := F) c) $$ Hd
  ihave Ho := (filled_join m c) $$ Hf
  imodintro
  unfold final results
  isplitl [Hb Hx Hw Ho]
  · isplitl [Hb]
    · iapply (Entails.of_eq (unscoped_eq (F := F) c).symm) $$ Hb
    isplitl [Hx]; · iexact Hx
    isplitl [Hw] <;> iassumption
  isplitl [Hst Hsf Hzt Hzf Hz]
  · iapply (Entails.of_eq (ownSems_eq (F := F) c).symm)
    isplitl [Hst Hsf]; · isplitl [Hst] <;> iassumption
    isplitl [Hzt Hzf]; · isplitl [Hzt] <;> iassumption
    iexact Hz
  iapply (scratch_to (F := F) c)
  unfold scratch
  isplitl [HwV]
  · unfold ownE; iexists _; iexact HwV
  isplitl [HxV]; · iexact HxV
  isplitl [Hs1]; · iexact Hs1
  isplitl [Hr1]; · iexact Hr1
  isplitl [Hs2]; · iexact Hs2
  isplitl [Hr2]; · iexact Hr2
  isplitl [Ht1]; · iexact Ht1
  isplitl [Ht2]; · iexact Ht2
  isplitl [Hg1]; · iexact Hg1
  iexact Hg2

/-- Before point `n`, or at the end. -/
def phase (c : Dev nD) (n : ℕ) : sProp 𝕄 := if n < 4 then mids m c n else final m c

/-- One grid point takes a device from one phase to the next. -/
theorem phase_step (c : Dev nD) (i : grid0.Coords) :
    iprop(phase m c (jj i).val ∗ owe c (frontOwe c (jj i).val))
      ⊢ WP c (cc0_body i xH (Memref.isWhole_whole _) wH (Memref.isWhole_whole _) oH (Memref.isWhole_whole _) wV (Memref.isWhole_whole _) xV (Memref.isWhole_whole _)
    (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _)
    (Memref.whole cc0_scratch8) (Memref.isWhole_whole _) (Memref.whole cc0_scratch9) (Memref.isWhole_whole _) cc0_scratch10 cc0_scratch11 cc0_scratch12
    cc0_scratch13 cc0_scratch14 cc0_scratch15 cc0_scratch16 cc0_scratch17 cc0_scratch18 cc0_scratch19 cc0_scratch20 cc0_scratch21) fun _ =>
        iprop(phase m c ((jj i).val + 1) ∗ owe c (frontOwe c ((jj i).val + 1))) := by
  have hend : mids m c ((jj i).val + 1) ⊢ |={Set.univ}=> phase m c ((jj i).val + 1) := by
    unfold phase
    by_cases h : (jj i).val + 1 < 4
    · rw [if_pos h]; exact fupd_intro
    · rw [if_neg h, show (jj i).val + 1 = 4 by have := (jj i).isLt; omega]; exact mids_end m c
  have hin : phase m c (jj i).val = mids m c (jj i).val := if_pos (jj i).isLt
  rw [hin]
  refine BIBase.Entails.trans ?_ (wp_fupd _ _ _ _ _)
  iintro ⟨Hm, HO⟩
  ihave ⟨⟨%K, #Hctx⟩, Hb, Hs⟩ := (show mids m c (jj i).val ⊢ iprop((∃ K, ctx m K) ∗ between m c (jj i).val ∗ bigSep Finset.univ fun j : Fin 4 => if j.val < (jj i).val then pointDone m c j else pointKit c j) from .rfl) $$ Hm
  ihave ⟨Hk, Hback⟩ := (flip (fun j : Fin 4 => pointKit c j) (fun j => pointDone m c j) (jj i)) $$ Hs
  iapply (wp_wand _ _ _) $$ [Hb Hk HO]
  · iapply (point m K c i)
    isplitr; · iexact Hctx
    isplitl [Hb]; · iexact Hb
    isplitl [Hk] <;> iassumption
  iintro %u ⟨Hb, Hd, HO⟩
  imod hend $$ [Hb Hd Hback] with Hp
  · unfold mids
    isplitr; · iexists K; iexact Hctx
    isplitl [Hb]; · iexact Hb
    iapply Hback $$ Hd
  imodintro
  isplitl [Hp] <;> iassumption

end Cert.Ring

end
-- ==== Proof.Launch.lean ====
/- The run of the whole kernel on four devices, over any float values. -/
module

public import proofs.«01_k».proof.Proof.Phases
public import Idealize.ShloMosaic.Lib.Pipeline.CollectiveSegs

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

variable (m : (ℓ : Loc nD τ sig) → Buf (Elt F) ℓ) (ρ : Dev nD → PrngReg)

/-- The launch's proof data: no windows, the phases between the points, the dues that are left. -/
def dats (_ : Fin 1) (c : Dev nD) : Pipeline.Dat τ (Elt F) ℕ ℕ UU ℕ cfg0 c where
  A w := w.elim0
  after w _ := w.elim0
  Φ t := phase m c t.val
  q w := w.elim0
  owed t := tallyL (frontOwe c t.val)

theorem dats_Φ (c : Dev nD) (t : Fin (cfg0.N + 1)) (n : ℕ) (h : t.val = n) : (dats m 0 c).Φ t = phase m c n := by subst h; rfl

theorem jj_coords (t : Fin grid0.N) : (jj (grid0.coords t)).val = t.val := by
  rcases fin_N0 t with rfl | rfl | rfl | rfl <;> decide +kernel

theorem owe_in (c : Dev nD) (t : Fin (cfg0.N + 1)) (n : ℕ) (h : t.val = n) : (dats m 0 c).owesAt 0 t ⊢ owe c (frontOwe c n) := by
  subst h
  unfold Pipeline.Dat.owesAt Pipeline.owesWithin owe
  iintro ⟨%W, -, H⟩
  iexists W
  iexact H
theorem owe_out (c : Dev nD) (t : Fin (cfg0.N + 1)) (n : ℕ) (h : t.val = n) : owe c (frontOwe c n) ⊢ (dats m 0 c).owesAt 0 t := by
  subst h
  unfold Pipeline.Dat.owesAt Pipeline.owesWithin owe
  iintro ⟨%W, H⟩
  iexists W
  isplitr
  · ipureintro; exact fun _ _ => Or.inl trivial
  iexact H

theorem no_windows (Ψ : Fin cfg0.W → sProp 𝕄) : bigSep Finset.univ Ψ = iprop(emp) := by
  rw [show (Finset.univ : Finset (Fin cfg0.W)) = ∅ from Finset.univ_eq_empty (α := Fin 0)]; exact bigSep_empty

theorem body_obligation (c : Dev nD) : Pipeline.BodyObligation (dats (F := F) m 0 c) (defs₀ (F := F)) 𝒱₀ 0 Set.univ := fun t => by
  rw [no_windows, no_windows]
  have hj := jj_coords t
  have h := phase_step m c (grid0.coords t)
  rw [hj] at h
  have hs : (Fin.succ t).val = t.val + 1 := rfl
  have hin : iprop((dats m 0 c).Φ t.castSucc ∗ (dats m 0 c).owesAt 0 t.castSucc ∗ emp) ⊢ (iprop(phase m c t.val ∗ owe c (frontOwe c t.val)) : sProp 𝕄) := by
    rw [dats_Φ m c t.castSucc t.val rfl]
    iintro ⟨H1, H2, -⟩
    isplitl [H1]; · iexact H1
    iapply (owe_in m c t.castSucc t.val rfl) $$ H2
  have hout : iprop(phase m c (t.val + 1) ∗ owe c (frontOwe c (t.val + 1))) ⊢ (iprop((dats m 0 c).Φ t.succ ∗ (dats m 0 c).owesAt 0 t.succ ∗ emp) : sProp 𝕄) := by
    rw [dats_Φ m c t.succ (t.val + 1) rfl]
    iintro ⟨H1, H2⟩
    isplitl [H1]; · iexact H1
    isplitl [H2]
    · iapply (owe_out m c t.succ (t.val + 1) rfl) $$ H2
    iempintro
  exact (hin.trans h).trans (wp_mono _ _ _ fun _ => hout)

/-! ## The theorem's side conditions -/

theorem start_intro (c : Dev nD) :
    iprop(Pipeline.unscopedRestP Pipeline.Prefetch.none cfg0.spec c (fun b => m ((c : Thread nD τ).loc b)) ∗ levAts (SiteBlocks.L NL) SiteBlocks.lv
        ∗ Pipeline.launchCred (fun d => tallyL (frontOwe d 0)) c ∗ prngReg c (ρ c) ∗ G' m c)
      ⊢ |={Set.univ}=> iprop(start m c ∗ emp) := by
  rw [Pipeline.unscopedRestP_none, unscopedRest0_eq]
  unfold start
  iintro ⟨⟨Hx, Hw, Ho⟩, Hlev, Hcr, -, HG⟩
  imodintro
  isplitl
  · isplitl [HG]; · iexact HG
    isplitl [Hcr]; · iexact Hcr
    isplitl [Hlev]; · iexact Hlev
    isplitl [Hx]
    · iapply (Entails.of_eq (owns_whole (c : Thread nD τ) main_arg0 fullShare (m ((c : Thread nD τ).loc main_arg0))).symm) $$ Hx
    isplitl [Hw]
    · iapply (Entails.of_eq (owns_whole (c : Thread nD τ) main_arg1 fullShare (m ((c : Thread nD τ).loc main_arg1))).symm) $$ Hw
    iapply (Entails.of_eq (ownE_whole (F := F) c main_v1).symm)
    iexists _; iexact Ho
  · iempintro

theorem phase_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [(dats_Φ m c 0 0 rfl).trans (show phase m c 0 = mids m c 0 from if_pos (by omega))]
  iintro ⟨Hs, -, Hr⟩
  iapply (mids_start m c)
  isplitl [Hs]; · iexact Hs
  iapply (scratch_of (F := F) c) $$ Hr

theorem phase_exit (c : Dev nD) :
    (dats m 0 c).Φ (Fin.last cfg0.N) ⊢ iprop((unscopedSems0 c ∗ results m c) ∗ Pipeline.ownSems0 osem c ∗ Pipeline.scopedRest cfg0.spec c) := by
  have h : (dats m 0 c).Φ (Fin.last cfg0.N) = final m c := by
    rw [dats_Φ m c (Fin.last cfg0.N) 4 N_0]; exact if_neg (by omega)
  rw [h]; unfold final; exact .rfl

/-- What a final memory holds on device `c`. -/
def Ends (c : Dev nD) (s : MemSt nD τ sig (Elt F)) : Prop :=
  (s.mem ((c : Thread nD τ).loc main_v1) = outAll m ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem results_pts (c : Dev nD) : results m c = iprop((((c : Thread nD τ).loc main_arg0) ↦{fullShare} m ((c : Thread nD τ).loc main_arg0))
    ∗ (((c : Thread nD τ).loc main_arg1) ↦{fullShare} m ((c : Thread nD τ).loc main_arg1)) ∗ (((c : Thread nD τ).loc main_v1) ↦{fullShare} outAll m) : sProp 𝕄) := by
  unfold results own; rw [owns_whole, owns_whole, owns_whole]

theorem reads (c : Dev nD) (s' : Phys nD τ sig (Elt F)) :
    iprop((unscopedSems0 c ∗ results m c) ∗ emp ∗ SI s') ⊢ |={Set.univ}=> (iprop(⌜Ends m c s'.mem⌝ ∗ SI s') : sProp 𝕄) := by
  rw [results_pts]
  iintro ⟨⟨Hu, Hx, Hw, Ho⟩, -, HSI⟩
  icombine HSI Hx gives %hx
  icombine HSI Hw gives %hw
  icombine HSI Ho gives %ho
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ ho, Buf.eq_of_forall_mem_univ hx, Buf.eq_of_forall_mem_univ hw⟩, hs⟩
  iexact HSI

theorem waits (c : Dev nD) : (levAts (SiteBlocks.L NL) SiteBlocks.lv : sProp 𝕄) ⊢ Pipeline.cellsWaits cfgs (dats m) 0 0 c :=
  Pipeline.cellsWaits_intro cfgs (dats m) 0 0 c fun w _ _ => w.elim0

/-! ## The run -/

set_option maxRecDepth 8000 in
/-- From any memory with zero counters, over any float values: every weakly fair execution of @main on the four devices
    ends, each device's result buffer holds the tiles that the ring computes, the operands are unchanged and every
    semaphore reads zero. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := fun c w => w.elim0)
    (hdistinct := winFacts0.arr_inj)
    (O₀ := fun d => tallyL (frontOwe d 0)) (howed₀ := fun _ => rfl) (howedN := fun c => by
      show tallyL (frontOwe c grid0.N) = 0
      rw [N_0]; rfl)
    (L := SiteBlocks.L NL) (lv := SiteBlocks.lv) (hL := SiteBlocks.hL NL) (hwaits := waits m)
    (G := G m) (G' := G' m) (u₀ := u₀)
    (hu₀ := by
      unfold u₀
      iintro Hu
      ihave H := (ownU_pair _ _) $$ Hu
      icases H with ⟨HP, HX⟩
      imod (fund_ring m) $$ [HX] with HG
      · iexact HX
      imodintro
      isplitl [HP] <;> iassumption)
    (hglob := glob m)
    (hA := fun _ w => w.elim0) (hpf := fun _ k => k.elim0)
    (X := start m) (Y := fun c => iprop(unscopedSems0 c ∗ results m c)) (Z := fun _ => iprop(emp))
    (hX := start_intro m ρ) (hin := phase_intro m) (hout := phase_exit m)
    (QY := Ends m) (hY := reads m)
    (hQ := fun _ h hs => ⟨fun c => (h c).2.2, sem_eq_zero hs fun c => (h c).2.2.2⟩)

end Cert.Ring

end
-- ==== Proof.Value.lean ====
/- The value over the reals: every device ends with the whole product of the reference. -/
module

public import proofs.«01_k».proof.Proof.Launch
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.Ring

open Cert.KernelIdeal Cert.KernelIdeal.Gen

open Idealize.ShloMosaic
open Idealize.ShloMosaic.TcCoe
open Idealize.SL Idealize.SL.RA Idealize.SL.BI
open scoped Idealize.SL.BI
open Idealize.ShloMosaic.Rounds
open Idealize.ShloMosaic.TalkSites (Pay tallyL)
open Idealize.SL.BI.BIBase Idealize.SL.BI.Laws Idealize.SL.ProofMode Idealize.SL.Sem

variable {F : FTy → Type} [FloatOps F]

local notation "𝕄" => MT nD τ sig ℕ (Elt F) ℕ UU ℕ

open Idealize.ShloMosaic.ValueIdx
open scoped BigOperators

/-! ## The contents, element by element -/

/-- A shape cast to the same shape changes nothing. -/
theorem cast_self {s : Shape} {α : Type} (v : s.Idx → α) (h : s.ShapeCasts s) : shapeCast s v h = v :=
  funext fun i => congrArg v (Shape.reshapeEquiv_self h i)

section Read

variable (m : (ℓ : Loc nD τ sig) → Buf (Elt F) ℓ)

theorem xband_at (c a : Dev nD) (j : Fin 4) (r : Fin 512) (k : Fin 2048) (R : Fin 8192) (hR : R.val = 2048 * a.val + 512 * j.val + r.val) :
    xband m c a j (ix2 r k) = m ((c : Thread nD τ).loc main_arg0) (ix2 R k) := by
  refine congrArg (m ((c : Thread nD τ).loc main_arg0)) (funext fun b => Fin.ext ?_)
  match b with
  | ⟨0, _⟩ => show 2048 * a.val + 512 * j.val + 1 * r.val = R.val; omega
  | ⟨1, _⟩ => show 0 + 1 * k.val = k.val; omega

theorem whalf_at (d : Bool) (c : Dev nD) (k l : Fin 2048) (L : Fin 4096) (hL : L.val = coff d + l.val) :
    whalf m d c (ix2 k l) = m ((c : Thread nD τ).loc main_arg1) (ix2 k L) := by
  refine congrArg (m ((c : Thread nD τ).loc main_arg1)) (funext fun b => Fin.ext ?_)
  match b with
  | ⟨0, _⟩ => show 0 + 1 * k.val = k.val; omega
  | ⟨1, _⟩ => show coff d + 1 * l.val = L.val; omega

end Read

/-! ## A partial product -/

theorem dot_plain : dot_S512x2048_S2048x2048_S512x2048_1_0_0_1_n_n = DotDims.plain 512 2048 2048 := rfl

/-- The product a device adds to what passes through it, at an element. -/
theorem pay2_at (x : Vec Ideal S512x2048 .bf16) (w : Vec Ideal S2048x2048 .bf16) (r : Fin 512) (l : Fin 2048) :
    k0_pay2 (F := Ideal) x w (ix2 r l) = ∑ k : Fin 2048, (x (ix2 r k) * w (ix2 k l) : EReal) := by
  rw [k0_pay2, cast_self, dot_plain]
  refine (Ideal.matmul_plain_apply none x w _ r l).trans ?_
  show (Ideal.ofBits .f32 0x00000000#32 : EReal) + _ = _
  rw [Ideal.ofBits_zero_f32]
  exact zero_add (∑ k : Fin 2048, (x (ix2 r k) * w (ix2 k l) : EReal))

variable (m : (ℓ : Loc nD τ sig) → Buf (Elt Ideal) ℓ)

/-- The first argument as device `c` holds it. -/
def xa (c : Dev nD) : S8192x2048.Idx → EReal := m ((c : Thread nD τ).loc main_arg0)
/-- The second argument as device `c` holds it. -/
def wa (c : Dev nD) : S2048x4096.Idx → EReal := m ((c : Thread nD τ).loc main_arg1)

/-- What device `c` contributes to row `R`, column `L`. -/
def term (R : Fin 8192) (L : Fin 4096) (c : Dev nD) : EReal :=
  ∑ k : Fin 2048, xa m c (ix2 R k) * wa m c (ix2 k L)

theorem part_at (d : Bool) (c a : Dev nD) (j : Fin 4) (r : Fin 512) (l : Fin 2048) (R : Fin 8192) (L : Fin 4096)
    (hR : R.val = 2048 * a.val + 512 * j.val + r.val) (hL : L.val = coff d + l.val) :
    k0_pay2 (F := Ideal) (xband m c a j) (whalf m d c) (ix2 r l) = term m R L c :=
  (pay2_at _ _ r l).trans (Finset.sum_congr rfl fun k _ => by rw [xband_at m c a j r k R hR, whalf_at m d c k l L hL]; rfl)

theorem first_eq (x : Vec Ideal S512x2048 .bf16) (w : Vec Ideal S2048x2048 .bf16) : k0_pay5 (F := Ideal) x w = k0_pay2 (F := Ideal) x w := by
  rw [k0_pay5, k0_pay2, cast_self, cast_self]; rfl
theorem next_at (v : Vec Ideal S512x2048 .f32) (w : Vec Ideal S512x2048 .bf16) (y : S512x2048.Idx) :
    k0_pay7 (F := Ideal) (k0_pay4 v w) y = (v y + w y : EReal) := by
  rw [k0_pay7, cast_self]; rfl
theorem last_eq (v : Vec Ideal S512x2048 .bf16) : k0_pay9 (F := Ideal) v = v := by
  rw [k0_pay9, cast_self]; rfl

theorem around_chunk (d : Bool) (a : Dev nD) : chunk d (pb d (pb d (pb d a))) 0 = a ∧ chunk d (pb d (pb d a)) (0 + 1) = a
    ∧ chunk d (pb d a) (1 + 1) = a ∧ chunk d a (2 + 1) = a := by revert d a; decide
theorem around_univ (d : Bool) (a : Dev nD) : (Finset.univ : Finset (Dev nD)) = {a, pb d a, pb d (pb d a), pb d (pb d (pb d a))}
    ∧ a ∉ ({pb d a, pb d (pb d a), pb d (pb d (pb d a))} : Finset (Dev nD))
    ∧ pb d a ∉ ({pb d (pb d a), pb d (pb d (pb d a))} : Finset (Dev nD)) ∧ pb d (pb d a) ∉ ({pb d (pb d (pb d a))} : Finset (Dev nD)) := by
  revert d a; decide

/-- The finished block at an element: the four devices' contributions, in the order of the ring. -/
theorem outV_at (d : Bool) (j : Fin 4) (a : Dev nD) (r : Fin 512) (l : Fin 2048) (R : Fin 8192) (L : Fin 4096)
    (hR : R.val = 2048 * a.val + 512 * j.val + r.val) (hL : L.val = coff d + l.val) :
    outV m d j a (ix2 r l) = ∑ c : Dev nD, term m R L c := by
  obtain ⟨h0, h1, h2, h3⟩ := around_chunk d a
  have e : outV m d j a (ix2 r l) = term m R L a + (term m R L (pb d a) + (term m R L (pb d (pb d a)) + term m R L (pb d (pb d (pb d a))))) := by
    unfold outV
    rw [last_eq]
    rw [acc, next_at, h3, part_at m d a a j r l R L hR hL]
    rw [acc, next_at, h2, part_at m d (pb d a) a j r l R L hR hL]
    rw [acc, next_at, h1, part_at m d (pb d (pb d a)) a j r l R L hR hL]
    rw [acc, first_eq, h0, part_at m d (pb d (pb d (pb d a))) a j r l R L hR hL]
  obtain ⟨hu, n1, n2, n3⟩ := around_univ d a
  rw [e, hu, Finset.sum_insert n1, Finset.sum_insert n2, Finset.sum_insert n3, Finset.sum_singleton]

/-! ## The whole product -/

abbrev Lhs : Type := FVec Ideal Cert.ReferenceIdeal.S8192x8192 .bf16
abbrev Rhs : Type := FVec Ideal Cert.ReferenceIdeal.S8192x4096 .bf16

/-- A sum over 8192 positions, 2048 at a time. -/
theorem sum_blocks (f : Fin 8192 → EReal) :
    (∑ c : Fin 4, ∑ k : Fin 2048, f ⟨c.val * 2048 + k.val, by have := c.isLt; have := k.isLt; omega⟩) = ∑ k : Fin 8192, f k := by
  rw [← Fintype.sum_prod_type' (fun (c : Fin 4) (k : Fin 2048) => f ⟨c.val * 2048 + k.val, by have := c.isLt; have := k.isLt; omega⟩),
    ← (finProdFinEquiv (m := 4) (n := 2048)).sum_comp f]
  refine Finset.sum_congr rfl fun x _ => congrArg f (Fin.ext ?_)
  show x.1.val * 2048 + x.2.val = x.2.val + 2048 * x.1.val
  omega

theorem ref_plain : Cert.ReferenceIdeal.dot_S8192x8192_S8192x4096_S8192x4096_1_0_0_1_n_n = DotDims.plain 8192 8192 4096 := rfl

/-- The reference's result from its two arguments. -/
def refOut (A : Lhs) (B : Rhs) : FVec Ideal Cert.ReferenceIdeal.S8192x4096 .f32 :=
  extf .f32 (truncf .bf16 (Host.dotGeneral Cert.ReferenceIdeal.dot_S8192x8192_S8192x4096_S8192x4096_1_0_0_1_n_n none A B) bitsLt_bf16_f32) bitsLt_bf16_f32

theorem refOut_at (A : Lhs) (B : Rhs) (R : Fin 8192) (L : Fin 4096) : refOut A B (ix2 R L) = ∑ k : Fin 8192, (A (ix2 R k) * B (ix2 k L) : EReal) := by
  show Host.dotGeneral (φ₁ := .bf16) (φ₂ := .bf16) Cert.ReferenceIdeal.dot_S8192x8192_S8192x4096_S8192x4096_1_0_0_1_n_n none A B (ix2 R L) = _
  rw [ref_plain]
  exact StackMember.dotGeneral_plain_apply none A B R L

/-- Where each device holds its part of the reference's arguments, every device's result is the reference's. -/
theorem outAll_eq (A : Lhs) (B : Rhs)
    (hA : ∀ c : Dev nD, m ((c : Thread nD τ).loc main_arg0) = Layout.block ⟨2, ![8192, 2048]⟩ ⟨2, ![8192, 8192]⟩ 1 4 c A)
    (hB : ∀ c : Dev nD, m ((c : Thread nD τ).loc main_arg1) = Layout.block ⟨2, ![2048, 4096]⟩ ⟨2, ![8192, 4096]⟩ 0 4 c B) :
    outAll m = refOut A B := by
  funext i
  have hr := row_lt i
  have hc := col_lt i
  have hi : i = ix2 ⟨(i 0).val, hr⟩ ⟨(i 1).val, hc⟩ := eq_ix2 i
  have ht : inTile i = ix2 ⟨(i 0).val % 512, Nat.mod_lt _ (by decide)⟩ ⟨(i 1).val % 2048, Nat.mod_lt _ (by decide)⟩ := eq_ix2 (inTile i)
  have hL : (i 1).val = coff (tileOf i).2.2 + (i 1).val % 2048 := by
    show (i 1).val = coff (decide ((i 1).val < 2048)) + (i 1).val % 2048
    by_cases h : (i 1).val < 2048
    · rw [decide_eq_true h]; simp only [coff, if_true]; omega
    · rw [decide_eq_false h]; simp only [coff, if_false, Bool.false_eq_true]; omega
  have hR : (i 0).val = 2048 * (tileOf i).1.val + 512 * (tileOf i).2.1.val + (i 0).val % 512 := by
    show (i 0).val = 2048 * ((i 0).val / 2048) + 512 * ((i 0).val % 2048 / 512) + (i 0).val % 512
    omega
  have e : outAll m i = ∑ c : Dev nD, term m ⟨(i 0).val, hr⟩ ⟨(i 1).val, hc⟩ c := by
    unfold outAll
    rw [ht]
    exact outV_at m _ _ _ _ _ ⟨(i 0).val, hr⟩ ⟨(i 1).val, hc⟩ hR hL
  rw [e, congrArg (refOut A B) hi, refOut_at, ← sum_blocks]
  refine Finset.sum_congr rfl fun c _ => Finset.sum_congr rfl fun k _ => ?_
  have eA : xa m c = Layout.block ⟨2, ![8192, 2048]⟩ ⟨2, ![8192, 8192]⟩ 1 4 c A := hA c
  have eB : wa m c = Layout.block ⟨2, ![2048, 4096]⟩ ⟨2, ![8192, 4096]⟩ 0 4 c B := hB c
  rw [eA, eB]
  refine congrArg₂ (fun a b : EReal => a * b) (congrArg A (funext fun b => Fin.ext ?_)) (congrArg B (funext fun b => Fin.ext ?_))
  · match b with
    | ⟨0, _⟩ => rfl
    | ⟨1, _⟩ => rfl
  · match b with
    | ⟨0, _⟩ => rfl
    | ⟨1, _⟩ => rfl

end Cert.Ring

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel as compiled and its ideal have one text: the run over bit patterns is the general one. -/
theorem frame_kernel : Cert.quiescent_Kernel := fun m ρ _ =>
  (θ_run Cert.KernelIdeal.defs _ _).mono (fun _ h => ⟨fun c => (h.1 c).1.2, h.2⟩) (Cert.Ring.run_main (F := Bits) m ρ)

theorem frame_kernelIdeal : Cert.quiescent_KernelIdeal := fun m ρ _ =>
  (θ_run Cert.KernelIdeal.defs _ _).mono (fun _ h => ⟨fun c => (h.1 c).1.2, h.2⟩) (Cert.Ring.run_main (F := Ideal) m ρ)

/-- The reference is a straight line of host operations and declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device ends with the reference's whole product. -/
theorem algebraic : Cert.algebraic_KernelIdeal_ReferenceIdeal := fun m ρ m' ρ' _ hag =>
  ⟨Cert.Ring.refOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨(h.1 c).1.1.trans (Cert.Ring.outAll_eq m _ _ (fun c => (hag c).1) (fun c => (hag c).2)), (h.1 c).1.2⟩)
      (Cert.Ring.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
